-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_with_nonnegative_gamma [hPre_finite_with_nonnegative_gamma : Cert.Pre_finite_with_nonnegative_gamma.Facts] (m : (ℓ : Loc Cert.KernelIdeal.nD Cert.KernelIdeal.τ Cert.KernelIdeal.sig) → Buf (Elt Ideal) ℓ) : Prop :=
  ∀ c : Dev Cert.KernelIdeal.nD,
    (Cert.Pre_finite_with_nonnegative_gamma.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_with_nonnegative_gamma.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_with_nonnegative_gamma.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_with_nonnegative_gamma.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_with_nonnegative_gamma [hPre_finite_with_nonnegative_gamma : Cert.Pre_finite_with_nonnegative_gamma.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_with_nonnegative_gamma.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_with_nonnegative_gamma.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_with_nonnegative_gamma.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_with_nonnegative_gamma.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_with_nonnegative_gamma [hKernelIdeal : Cert.KernelIdeal.Facts] [hPre_finite_with_nonnegative_gamma : Cert.Pre_finite_with_nonnegative_gamma.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_with_nonnegative_gamma m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_with_nonnegative_gamma [hReferenceIdeal : Cert.ReferenceIdeal.Facts] [hPre_finite_with_nonnegative_gamma : Cert.Pre_finite_with_nonnegative_gamma.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_with_nonnegative_gamma m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_with_nonnegative_gamma [hKernelIdeal : Cert.KernelIdeal.Facts] [hReferenceIdeal : Cert.ReferenceIdeal.Facts] [hPre_finite_with_nonnegative_gamma : Cert.Pre_finite_with_nonnegative_gamma.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_with_nonnegative_gamma m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_with_nonnegative_gamma : Cert.Pre_finite_with_nonnegative_gamma.Facts),
    quiescent_Kernel (hKernel := hKernel)
    ∧ quiescent_KernelIdeal (hKernelIdeal := hKernelIdeal)
    ∧ quiescent_KernelIdeal_pre_finite_with_nonnegative_gamma (hKernelIdeal := hKernelIdeal) (hPre_finite_with_nonnegative_gamma := hPre_finite_with_nonnegative_gamma)
    ∧ quiescent_ReferenceIdeal (hReferenceIdeal := hReferenceIdeal)
    ∧ quiescent_ReferenceIdeal_pre_finite_with_nonnegative_gamma (hReferenceIdeal := hReferenceIdeal) (hPre_finite_with_nonnegative_gamma := hPre_finite_with_nonnegative_gamma)
    ∧ preserves_Kernel_KernelIdeal
    ∧ algebraic_KernelIdeal_ReferenceIdeal_pre_finite_with_nonnegative_gamma (hKernelIdeal := hKernelIdeal) (hReferenceIdeal := hReferenceIdeal) (hPre_finite_with_nonnegative_gamma := hPre_finite_with_nonnegative_gamma)
-- ==== Pre_finite_with_nonnegative_gamma.lean ====
abbrev S8x64x16384 : Shape := ⟨3, ![8, 64, 16384]⟩
abbrev S8x16384 : Shape := ⟨2, ![8, 16384]⟩
abbrev S16x128x64 : Shape := ⟨3, ![16, 128, 64]⟩
abbrev S16x128 : Shape := ⟨2, ![16, 128]⟩
abbrev S_ : Shape := ⟨0, ![]⟩

class Facts : Prop where
  bcast_S_S8x64x16384 : S_.BroadcastsInDim S8x64x16384 (![] : Fin 0 → Fin S8x64x16384.rank)
  bcast_S_S16x128x64 : S_.BroadcastsInDim S16x128x64 (![] : Fin 0 → Fin S16x128x64.rank)
  bcast_S_S16x128 : S_.BroadcastsInDim S16x128 (![] : Fin 0 → Fin S16x128.rank)

variable [Facts]

def fn {F : FTy → Type} [FloatOps F] (main_arg0 : FVec F S8x64x16384 .f32) (main_arg1 : FVec F S8x16384 .f32) (main_arg2 : FVec F S16x128x64 .f32) (main_arg3 : FVec F S16x128 .f32) (main_arg4 : FVec F S16x128 .f32) (main_arg5 : FVec F S16x128 .f32) : IVec S8x64x16384 1 × IVec S16x128x64 1 × IVec S16x128 1 × IVec S16x128 1 :=
  let main_v0 : FVec F S8x64x16384 .f32 := Host.absf main_arg0
  let main_cst : FVec F S_ .f32 := constant S_ .f32 0x7F800000#32
  let main_v1 : FVec F S8x64x16384 .f32 := broadcastInDim S8x64x16384 ![] bcast_S_S8x64x16384 main_cst
  let main_v2 : IVec S8x64x16384 1 := cmpf .olt main_v0 main_v1
  let main_v3 : FVec F S16x128x64 .f32 := Host.absf main_arg2
  let main_cst_0 : FVec F S_ .f32 := constant S_ .f32 0x7F800000#32
  let main_v4 : FVec F S16x128x64 .f32 := broadcastInDim S16x128x64 ![] bcast_S_S16x128x64 main_cst_0
  let main_v5 : IVec S16x128x64 1 := cmpf .olt main_v3 main_v4
  let main_v6 : FVec F S16x128 .f32 := Host.absf main_arg3
  let main_cst_1 : FVec F S_ .f32 := constant S_ .f32 0x7F800000#32
  let main_v7 : FVec F S16x128 .f32 := broadcastInDim S16x128 ![] bcast_S_S16x128 main_cst_1
  let main_v8 : IVec S16x128 1 := cmpf .olt main_v6 main_v7
  let main_cst_2 : FVec F S_ .f32 := constant S_ .f32 0x00000000#32
  let main_v9 : FVec F S16x128 .f32 := broadcastInDim S16x128 ![] bcast_S_S16x128 main_cst_2
  let main_v10 : IVec S16x128 1 := cmpf .oge main_arg4 main_v9
  (main_v2, main_v5, main_v8, main_v10)
-- ==== Kernel.lean ====
abbrev S8x64x16384 : Shape := ⟨3, ![8, 64, 16384]⟩
abbrev S8x16384 : Shape := ⟨2, ![8, 16384]⟩
abbrev S16x128x64 : Shape := ⟨3, ![16, 128, 64]⟩
abbrev S16x128 : Shape := ⟨2, ![16, 128]⟩
abbrev S2048x64 : Shape := ⟨2, ![2048, 64]⟩
abbrev S2048x1 : Shape := ⟨2, ![2048, 1]⟩
abbrev S8x1x16384 : Shape := ⟨3, ![8, 1, 16384]⟩
abbrev S8x16x128 : Shape := ⟨3, ![8, 16, 128]⟩
abbrev S64x16 : Shape := ⟨2, ![64, 16]⟩
abbrev S2048x16 : Shape := ⟨2, ![2048, 16]⟩
abbrev S1x16 : Shape := ⟨2, ![1, 16]⟩
abbrev S8x128x16384 : Shape := ⟨3, ![8, 128, 16384]⟩
abbrev S1x64x512 : Shape := ⟨3, ![1, 64, 512]⟩
abbrev S1x1x512 : Shape := ⟨3, ![1, 1, 512]⟩
abbrev S1x16x128 : Shape := ⟨3, ![1, 16, 128]⟩
abbrev S64x512 : Shape := ⟨2, ![64, 512]⟩
abbrev S2048x512 : Shape := ⟨2, ![2048, 512]⟩
abbrev S1x512 : Shape := ⟨2, ![1, 512]⟩
abbrev S16x1 : Shape := ⟨2, ![16, 1]⟩
abbrev S16x512 : Shape := ⟨2, ![16, 512]⟩
abbrev S16 : Shape := ⟨1, ![16]⟩
abbrev S512x16 : Shape := ⟨2, ![512, 16]⟩
abbrev S16x128x512 : Shape := ⟨3, ![16, 128, 512]⟩
abbrev S16x1x1 : Shape := ⟨3, ![16, 1, 1]⟩
abbrev S16x1x512 : Shape := ⟨3, ![16, 1, 512]⟩
abbrev S2048 : Shape := ⟨1, ![2048]⟩
abbrev S1x1x2048 : Shape := ⟨3, ![1, 1, 2048]⟩
abbrev S1x128x2048 : Shape := ⟨3, ![1, 128, 2048]⟩
abbrev S1x2048 : Shape := ⟨2, ![1, 2048]⟩
abbrev S16x2048 : Shape := ⟨2, ![16, 2048]⟩
abbrev S128x2048 : Shape := ⟨2, ![128, 2048]⟩

abbrev nBuf : Space → Nat
  | .hbm => 15
  | .vmem => 26
  | .smem => 0
  | _ => 0

abbrev bufTy : (tb : Table) → Fin (tcTables nBuf tb) → BufTy
  | .hbm, ⟨0, _⟩ => ⟨S8x64x16384, .f32⟩
  | .hbm, ⟨1, _⟩ => ⟨S8x16384, .f32⟩
  | .hbm, ⟨2, _⟩ => ⟨S16x128x64, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S2048x64, .f32⟩
  | .hbm, ⟨7, _⟩ => ⟨S2048x1, .f32⟩
  | .hbm, ⟨8, _⟩ => ⟨S8x1x16384, .f32⟩
  | .hbm, ⟨9, _⟩ => ⟨S8x16x128, .f32⟩
  | .hbm, ⟨10, _⟩ => ⟨S64x16, .f32⟩
  | .hbm, ⟨11, _⟩ => ⟨S2048x16, .f32⟩
  | .hbm, ⟨12, _⟩ => ⟨S1x16, .f32⟩
  | .hbm, ⟨13, _⟩ => ⟨S8x16x128, .f32⟩
  | .hbm, ⟨14, _⟩ => ⟨S8x128x16384, .f32⟩
  | .local _ .vmem, ⟨0, _⟩ => ⟨S1x64x512, .f32⟩
  | .local _ .vmem, ⟨1, _⟩ => ⟨S1x64x512, .f32⟩
  | .local _ .vmem, ⟨2, _⟩ => ⟨S1x1x512, .f32⟩
  | .local _ .vmem, ⟨3, _⟩ => ⟨S1x1x512, .f32⟩
  | .local _ .vmem, ⟨4, _⟩ => ⟨S2048x64, .f32⟩
  | .local _ .vmem, ⟨5, _⟩ => ⟨S2048x1, .f32⟩
  | .local _ .vmem, ⟨6, _⟩ => ⟨S1x16x128, .f32⟩
  | .local _ .vmem, ⟨7, _⟩ => ⟨S1x16x128, .f32⟩
  | .local _ .vmem, ⟨8, _⟩ => ⟨S64x16, .f32⟩
  | .local _ .vmem, ⟨9, _⟩ => ⟨S2048x16, .f32⟩
  | .local _ .vmem, ⟨10, _⟩ => ⟨S1x16, .f32⟩
  | .local _ .vmem, ⟨11, _⟩ => ⟨S8x16x128, .f32⟩
  | .local _ .vmem, ⟨12, _⟩ => ⟨S64x16, .f32⟩
  | .local _ .vmem, ⟨13, _⟩ => ⟨S2048x16, .f32⟩
  | .local _ .vmem, ⟨14, _⟩ => ⟨S1x16, .f32⟩
  | .local _ .vmem, ⟨15, _⟩ => ⟨S2048x64, .f32⟩
  | .local _ .vmem, ⟨16, _⟩ => ⟨S16x128, .f32⟩
  | .local _ .vmem, ⟨17, _⟩ => ⟨S16x128, .f32⟩
  | .local _ .vmem, ⟨18, _⟩ => ⟨S16x128, .f32⟩
  | .local _ .vmem, ⟨19, _⟩ => ⟨S8x16x128, .f32⟩
  | .local _ .vmem, ⟨20, _⟩ => ⟨S1x1x2048, .f32⟩
  | .local _ .vmem, ⟨21, _⟩ => ⟨S1x1x2048, .f32⟩
  | .local _ .vmem, ⟨22, _⟩ => ⟨S1x16x128, .f32⟩
  | .local _ .vmem, ⟨23, _⟩ => ⟨S1x16x128, .f32⟩
  | .local _ .vmem, ⟨24, _⟩ => ⟨S1x128x2048, .f32⟩
  | .local _ .vmem, ⟨25, _⟩ => ⟨S1x128x2048, .f32⟩
  | _, _ => ⟨S8x64x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3_0 : Ref sig .tc := ⟨.hbm, 9, rfl⟩
abbrev main_call0_v3_1 : Ref sig .tc := ⟨.hbm, 10, rfl⟩
abbrev main_call0_v3_2 : Ref sig .tc := ⟨.hbm, 11, rfl⟩
abbrev main_call0_v3_3 : Ref sig .tc := ⟨.hbm, 12, rfl⟩
abbrev main_call0_v4 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev grid1 : Pipeline.Grid := .none

abbrev stage1_0 : Fin 1 → Memref sig .tc .vmem S8x16x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2048x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2048x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S16x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S16x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S16x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S8x16x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x1x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x16x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x128x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ReferenceIdeal.lean ====
abbrev S8x64x16384 : Shape := ⟨3, ![8, 64, 16384]⟩
abbrev S8x16384 : Shape := ⟨2, ![8, 16384]⟩
abbrev S16x128x64 : Shape := ⟨3, ![16, 128, 64]⟩
abbrev S16x128 : Shape := ⟨2, ![16, 128]⟩
abbrev S8x16384x64 : Shape := ⟨3, ![8, 16384, 64]⟩
abbrev S16 : Shape := ⟨1, ![16]⟩
abbrev S1x8x16384 : Shape := ⟨3, ![1, 8, 16384]⟩
abbrev S16x1x1 : Shape := ⟨3, ![16, 1, 1]⟩
abbrev S16x8x16384 : Shape := ⟨3, ![16, 8, 16384]⟩
abbrev S16x8x16384x1 : Shape := ⟨4, ![16, 8, 16384, 1]⟩
abbrev S8x16384x16x128 : Shape := ⟨4, ![8, 16384, 16, 128]⟩
abbrev S16x1x1x128 : Shape := ⟨4, ![16, 1, 1, 128]⟩
abbrev S16x8x16384x128 : Shape := ⟨4, ![16, 8, 16384, 128]⟩
abbrev S_ : Shape := ⟨0, ![]⟩
abbrev S16x1 : Shape := ⟨2, ![16, 1]⟩
abbrev S8x16384x128 : Shape := ⟨3, ![8, 16384, 128]⟩
abbrev S16x8x128 : Shape := ⟨3, ![16, 8, 128]⟩
abbrev S16x8x1x128 : Shape := ⟨4, ![16, 8, 1, 128]⟩
abbrev S8x128x16384 : Shape := ⟨3, ![8, 128, 16384]⟩

abbrev nBuf : Space → Nat
  | .hbm => 79
  | .vmem => 0
  | .smem => 0
  | _ => 0

abbrev bufTy : (tb : Table) → Fin (tcTables nBuf tb) → BufTy
  | .hbm, ⟨0, _⟩ => ⟨S8x64x16384, .f32⟩
  | .hbm, ⟨1, _⟩ => ⟨S8x16384, .f32⟩
  | .hbm, ⟨2, _⟩ => ⟨S16x128x64, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S8x16384, .i32⟩
  | .hbm, ⟨7, _⟩ => ⟨S8x16384x64, .f32⟩
  | .hbm, ⟨8, _⟩ => ⟨S16, .i32⟩
  | .hbm, ⟨9, _⟩ => ⟨S1x8x16384, .i32⟩
  | .hbm, ⟨10, _⟩ => ⟨S16x1x1, .i32⟩
  | .hbm, ⟨11, _⟩ => ⟨S16x8x16384, .i32⟩
  | .hbm, ⟨12, _⟩ => ⟨S16x8x16384, .i32⟩
  | .hbm, ⟨13, _⟩ => ⟨S16x8x16384, .i1⟩
  | .hbm, ⟨14, _⟩ => ⟨S16x8x16384x1, .i1⟩
  | .hbm, ⟨15, _⟩ => ⟨S16x8x16384x1, .f32⟩
  | .hbm, ⟨16, _⟩ => ⟨S8x16384x16x128, .f32⟩
  | .hbm, ⟨17, _⟩ => ⟨S16x1x1x128, .f32⟩
  | .hbm, ⟨18, _⟩ => ⟨S16x8x16384x128, .f32⟩
  | .hbm, ⟨19, _⟩ => ⟨S16x8x16384x128, .f32⟩
  | .hbm, ⟨20, _⟩ => ⟨S16x8x16384x128, .f32⟩
  | .hbm, ⟨21, _⟩ => ⟨S_, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S16x8x16384x128, .f32⟩
  | .hbm, ⟨27, _⟩ => ⟨S16x8x16384x128, .f32⟩
  | .hbm, ⟨28, _⟩ => ⟨S_, .f32⟩
  | .hbm, ⟨29, _⟩ => ⟨S16x128, .f32⟩
  | .hbm, ⟨30, _⟩ => ⟨S16x1, .f32⟩
  | .hbm, ⟨31, _⟩ => ⟨S16x128, .f32⟩
  | .hbm, ⟨32, _⟩ => ⟨S16x128, .f32⟩
  | .hbm, ⟨33, _⟩ => ⟨S16x1x1x128, .f32⟩
  | .hbm, ⟨34, _⟩ => ⟨S16x8x16384x128, .f32⟩
  | .hbm, ⟨35, _⟩ => ⟨S16x8x16384x128, .f32⟩
  | .hbm, ⟨36, _⟩ => ⟨S16x8x16384x128, .f32⟩
  | .hbm, ⟨37, _⟩ => ⟨S16x8x16384x128, .f32⟩
  | .hbm, ⟨38, _⟩ => ⟨S16x8x16384x128, .f32⟩
  | .hbm, ⟨39, _⟩ => ⟨S_, .f32⟩
  | .hbm, ⟨40, _⟩ => ⟨S16x128, .f32⟩
  | .hbm, ⟨41, _⟩ => ⟨S16x1, .f32⟩
  | .hbm, ⟨42, _⟩ => ⟨S16x128, .f32⟩
  | .hbm, ⟨43, _⟩ => ⟨S16x128, .f32⟩
  | .hbm, ⟨44, _⟩ => ⟨S16x1x1x128, .f32⟩
  | .hbm, ⟨45, _⟩ => ⟨S16x8x16384x128, .f32⟩
  | .hbm, ⟨46, _⟩ => ⟨S16x8x16384x128, .f32⟩
  | .hbm, ⟨47, _⟩ => ⟨S_, .f32⟩
  | .hbm, ⟨48, _⟩ => ⟨S16x128, .f32⟩
  | .hbm, ⟨49, _⟩ => ⟨S16x128, .f32⟩
  | .hbm, ⟨50, _⟩ => ⟨S16x128, .f32⟩
  | .hbm, ⟨51, _⟩ => ⟨S16x1x1x128, .f32⟩
  | .hbm, ⟨52, _⟩ => ⟨S16x8x16384x128, .f32⟩
  | .hbm, ⟨53, _⟩ => ⟨S16x8x16384x128, .f32⟩
  | .hbm, ⟨54, _⟩ => ⟨S16x1x1x128, .f32⟩
  | .hbm, ⟨55, _⟩ => ⟨S16x8x16384x128, .f32⟩
  | .hbm, ⟨56, _⟩ => ⟨S16x8x16384x128, .f32⟩
  | .hbm, ⟨57, _⟩ => ⟨S16x1x1x128, .f32⟩
  | .hbm, ⟨58, _⟩ => ⟨S16x8x16384x128, .f32⟩
  | .hbm, ⟨59, _⟩ => ⟨S16x8x16384x128, .f32⟩
  | .hbm, ⟨60, _⟩ => ⟨S_, .f32⟩
  | .hbm, ⟨61, _⟩ => ⟨S_, .f32⟩
  | .hbm, ⟨62, _⟩ => ⟨S16x8x16384x128, .i1⟩
  | .hbm, ⟨63, _⟩ => ⟨S8x16384x128, .f32⟩
  | .hbm, ⟨64, _⟩ => ⟨S16x8x16384x128, .f32⟩
  | .hbm, ⟨65, _⟩ => ⟨S16x8x16384x128, .f32⟩
  | .hbm, ⟨66, _⟩ => ⟨S_, .f32⟩
  | .hbm, ⟨67, _⟩ => ⟨S16x8x128, .f32⟩
  | .hbm, ⟨68, _⟩ => ⟨S16x8x1x128, .f32⟩
  | .hbm, ⟨69, _⟩ => ⟨S16x8x16384x128, .f32⟩
  | .hbm, ⟨70, _⟩ => ⟨S_, .f32⟩
  | .hbm, ⟨71, _⟩ => ⟨S_, .f32⟩
  | .hbm, ⟨72, _⟩ => ⟨S16x8x16384x128, .i1⟩
  | .hbm, ⟨73, _⟩ => ⟨S8x16384x128, .f32⟩
  | .hbm, ⟨74, _⟩ => ⟨S16x8x16384x128, .f32⟩
  | .hbm, ⟨75, _⟩ => ⟨S16x8x16384x128, .f32⟩
  | .hbm, ⟨76, _⟩ => ⟨S_, .f32⟩
  | .hbm, ⟨77, _⟩ => ⟨S8x16384x128, .f32⟩
  | .hbm, ⟨78, _⟩ => ⟨S8x128x16384, .f32⟩
  | _, _ => ⟨S8x64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_4 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_6 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Proof.Algebra.lean ====
/- The arithmetic the kernel and the reference share, for one ring and one output channel.

   A ring is a set `p` of points (batch `b`, position `n`). The reference normalises every value of the ring by the
   ring's mean and variance and takes the largest normalised value of each batch; the kernel takes the largest value
   first and normalises that one, with the variance as "mean of squares minus square of the mean". Over real inputs
   and a nonnegative scale the two agree wherever the ring has a point in the batch. -/
module

public import Idealize.ShloMosaic.PureOps.Ideal.Laws
public import Idealize.ShloMosaic.Lib.ValueIdx

@[expose] public section

noncomputable section

open Idealize.ShloMosaic

namespace Cert.Rings

/-- The batches, and the positions of a batch. -/
abbrev Bt := Fin 8
abbrev Ps := Fin 16384

/-- One where the point belongs to the ring, zero elsewhere. -/
def ind (q : Prop) [Decidable q] : EReal := if q then 1 else 0

/-- The sum over all points. -/
def tot (f : Bt → Ps → EReal) : EReal := ∑ b, ∑ n, f b n

/-- The largest of a batch's values. -/
def top (f : Ps → EReal) : EReal := (Finset.univ : Finset Ps).fold max ⊥ f

/-! ## The reference's statistics -/

section Reference

variable (e : EReal) (p : Bt → Ps → Prop) [∀ b n, Decidable (p b n)] (y : Bt → Ps → EReal)

def rcnt : EReal := max (tot fun b n => ind (p b n)) 1
def rmean : EReal := Ideal.div (tot fun b n => y b n * ind (p b n)) (rcnt p)
def rvar : EReal :=
  Ideal.div (tot fun b n => (y b n - rmean p y) * (y b n - rmean p y) * ind (p b n)) (rcnt p)
def rnorm (g d : EReal) (b : Bt) (n : Ps) : EReal :=
  Ideal.div (y b n - rmean p y) (Ideal.sqrt (rvar p y + e)) * g + d
/-- The reference's table entry: the largest normalised value of the ring in batch `b`. -/
def rseg (g d : EReal) (b : Bt) : EReal := top fun n => if p b n then rnorm e p y g d b n else ⊥

end Reference

/-! ## The kernel's statistics -/

section Kernel

variable (e : EReal) (cnt sy ssq c : EReal)

def kmean : EReal := Ideal.div (sy + cnt * c) (max cnt 1)
def kvar : EReal := max (Ideal.div ssq (max cnt 1) - kmean cnt sy c * kmean cnt sy c) 0
/-- The kernel's table entry from the largest raw value `mx`. -/
def kseg (g d mx : EReal) : EReal :=
  if mx = ⊥ then 0
  else (mx - kmean cnt sy c) * (Ideal.rsqrt (kvar cnt sy ssq c + e) * g) + d

end Kernel

/-! ## Sums of reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real-valued total. -/
def rtot (f : Bt → Ps → ℝ) : ℝ := ∑ b, ∑ n, f b n

theorem tot_coe (f : Bt → Ps → ℝ) : (tot fun b n => (f b n : EReal)) = (rtot f : EReal) := by
  unfold tot rtot
  rw [coe_sum]
  exact Finset.sum_congr rfl fun b _ => (coe_sum _ _).symm

theorem rtot_add (f h : Bt → Ps → ℝ) : (rtot fun b n => f b n + h b n) = rtot f + rtot h := by
  simp only [rtot, Finset.sum_add_distrib]

theorem rtot_mul (a : ℝ) (f : Bt → Ps → ℝ) : (rtot fun b n => a * f b n) = a * rtot f := by
  simp only [rtot, Finset.mul_sum]

theorem rtot_sum {κ : Type} [Fintype κ] (f : κ → Bt → Ps → ℝ) :
    (rtot fun b n => ∑ k, f k b n) = ∑ k, rtot (f k) := by
  unfold rtot
  exact (Finset.sum_congr rfl fun b _ => Finset.sum_comm).trans Finset.sum_comm

theorem rtot_nonneg (f : Bt → Ps → ℝ) (h : ∀ b n, 0 ≤ f b n) : 0 ≤ rtot f :=
  Finset.sum_nonneg fun b _ => Finset.sum_nonneg fun n _ => h b n

theorem le_rtot (f : Bt → Ps → ℝ) (h : ∀ b n, 0 ≤ f b n) (b : Bt) (n : Ps) : f b n ≤ rtot f :=
  (Finset.single_le_sum (f := fun n => f b n) (fun n _ => h b n) (Finset.mem_univ n)).trans
    (Finset.single_le_sum (f := fun b => ∑ n, f b n) (fun b _ => Finset.sum_nonneg fun n _ => h b n) (Finset.mem_univ b))

/-- The real indicator. -/
def rind (q : Prop) [Decidable q] : ℝ := if q then 1 else 0

theorem ind_coe (q : Prop) [Decidable q] : ind q = (rind q : EReal) := by
  unfold ind rind; split <;> simp

theorem rind_nonneg (q : Prop) [Decidable q] : 0 ≤ rind q := by unfold rind; split <;> simp

theorem coe_max (a b : ℝ) : ((max a b : ℝ) : EReal) = max (a : EReal) (b : EReal) :=
  Monotone.map_max (fun _ _ h => EReal.coe_le_coe_iff.mpr h)

/-! ## The largest value of a nonempty segment -/

theorem top_eq_sup (f : Ps → EReal) : top f = Finset.univ.sup f := rfl

/-- The largest of the ring's values is attained at a point of the ring, and a map that keeps the order of the
    ring's values sends it to the largest of the images. -/
theorem top_image (q : Ps → Prop) [∀ n, Decidable (q n)] (y z : Ps → EReal) (hq : ∃ n, q n)
    (hmono : ∀ n m, q n → q m → y n ≤ y m → z n ≤ z m) :
    ∃ n, q n ∧ (top fun n => if q n then y n else ⊥) = y n ∧ (top fun n => if q n then z n else ⊥) = z n := by
  obtain ⟨n₀, h₀⟩ := hq
  obtain ⟨n, hn, hmax⟩ := Finset.exists_max_image (Finset.univ.filter q) y
    ⟨n₀, Finset.mem_filter.mpr ⟨Finset.mem_univ _, h₀⟩⟩
  have hqn : q n := (Finset.mem_filter.mp hn).2
  have hle : ∀ m, q m → y m ≤ y n := fun m hm => hmax m (Finset.mem_filter.mpr ⟨Finset.mem_univ _, hm⟩)
  refine ⟨n, hqn, ?_, ?_⟩
  · rw [top_eq_sup]
    refine le_antisymm (Finset.sup_le fun m _ => ?_) ?_
    · split
      · exact hle m ‹_›
      · exact bot_le
    · have := Finset.le_sup (f := fun n => if q n then y n else (⊥ : EReal)) (Finset.mem_univ n)
      simpa [hqn] using this
  · rw [top_eq_sup]
    refine le_antisymm (Finset.sup_le fun m _ => ?_) ?_
    · split
      · exact hmono m n ‹_› hqn (hle m ‹_›)
      · exact bot_le
    · have := Finset.le_sup (f := fun n => if q n then z n else (⊥ : EReal)) (Finset.mem_univ n)
      simpa [hqn] using this

/-! ## The equation of the two variances -/

theorem variance_eq (C μ : ℝ) (w y : Bt → Ps → ℝ) (hC : C ≠ 0) (hw : rtot w = C)
    (hμ : μ = rtot (fun b n => y b n * w b n) * (1 / C)) :
    rtot (fun b n => (y b n - μ) * (y b n - μ) * w b n) * (1 / C)
      = rtot (fun b n => y b n * y b n * w b n) * (1 / C) - μ * μ := by
  have h : (rtot fun b n => (y b n - μ) * (y b n - μ) * w b n)
      = (rtot fun b n => y b n * y b n * w b n) + ((-2 * μ) * (rtot fun b n => y b n * w b n) + μ * μ * rtot w) := by
    rw [← rtot_mul, ← rtot_mul, ← rtot_add, ← rtot_add]
    exact congrArg rtot (funext fun b => funext fun n => by ring)
  have hS : (rtot fun b n => y b n * w b n) = μ * C := by rw [hμ]; field_simp
  rw [h, hS, hw]
  field_simp
  ring

/-! ## The two table entries agree -/

/-- For real inputs and a nonnegative scale, at a batch in which the ring has a point. -/
theorem seg_eq {κ : Type} [Fintype κ] (e : ℝ) (he : 0 < e) (p : Bt → Ps → Prop) [∀ b n, Decidable (p b n)]
    (x : Bt → κ → Ps → ℝ) (w : κ → ℝ) (c : ℝ) (g d : EReal) (hg : 0 ≤ g) (b : Bt) (hb : ∃ n, p b n)
    (y : Bt → Ps → EReal) (hy : ∀ b n, y b n = ((∑ k, w k * x b k n + c : ℝ) : EReal)) :
    kseg (e : EReal) (tot fun b n => ind (p b n))
        (∑ k, (w k : EReal) * tot fun b n => (x b k n : EReal) * ind (p b n))
        (tot fun b n => y b n * y b n * ind (p b n)) (c : EReal) g d
        (top fun n => if p b n then y b n else ⊥)
      = rseg (e : EReal) p y g d b := by
  obtain ⟨n₀, hn₀⟩ := hb
  set yr : Bt → Ps → ℝ := fun b n => ∑ k, w k * x b k n + c with hyr
  obtain rfl : y = fun b n => (yr b n : EReal) := funext fun b => funext fun n => hy b n
  set i : Bt → Ps → ℝ := fun b n => rind (p b n) with hi
  have hi0 : ∀ b n, 0 ≤ i b n := fun b n => rind_nonneg _
  set C : ℝ := rtot i with hCdef
  have hC1 : 1 ≤ C := by
    have h := le_rtot i hi0 b n₀
    have : i b n₀ = 1 := by simp [hi, rind, hn₀]
    rw [this] at h; exact h
  have hC0 : C ≠ 0 := by linarith
  have hmaxC : max C 1 = C := max_eq_left hC1
  have hcnt : (tot fun b n => ind (p b n)) = (C : EReal) := by
    simp only [ind_coe]; exact tot_coe i
  set S : ℝ := rtot fun b n => yr b n * i b n with hS
  set μ : ℝ := S * (1 / C) with hμ
  have hrcnt : rcnt p = (C : EReal) := by
    unfold rcnt
    rw [hcnt, ← EReal.coe_one, ← coe_max, hmaxC]
  have hrmean : rmean p (fun b n => (yr b n : EReal)) = (μ : EReal) := by
    unfold rmean
    rw [hrcnt, Ideal.div_coe hC0]
    simp only [ind_coe, ← EReal.coe_mul]
    rw [tot_coe]
    exact (EReal.coe_mul _ _).symm
  set v : ℝ := rtot (fun b n => (yr b n - μ) * (yr b n - μ) * i b n) * (1 / C) with hv
  have hrvar : rvar p (fun b n => (yr b n : EReal)) = (v : EReal) := by
    unfold rvar
    rw [hrcnt, hrmean, Ideal.div_coe hC0]
    simp only [ind_coe, ← EReal.coe_mul, ← EReal.coe_sub]
    rw [tot_coe]
    exact (EReal.coe_mul _ _).symm
  have hv0 : 0 ≤ v := mul_nonneg
    (rtot_nonneg _ fun b n => mul_nonneg (mul_self_nonneg _) (hi0 b n)) (by positivity)
  have hsy : (∑ k, w k * rtot fun b n => x b k n * i b n) + C * c = S := by
    rw [hS, hCdef, mul_comm (rtot i) c, ← rtot_mul]
    simp only [← rtot_mul]
    rw [← rtot_sum, ← rtot_add]
    refine congrArg rtot (funext fun b => funext fun n => ?_)
    rw [hyr, add_mul, Finset.sum_mul]
    refine congrArg (· + c * i b n) ?_
    exact Finset.sum_congr rfl fun k _ => (mul_assoc _ _ _).symm
  have hkmean : kmean (tot fun b n => ind (p b n))
      (∑ k, (w k : EReal) * tot fun b n => (x b k n : EReal) * ind (p b n)) (c : EReal) = (μ : EReal) := by
    unfold kmean
    have h1 : (∑ k, (w k : EReal) * tot fun b n => (x b k n : EReal) * ind (p b n))
        = ((∑ k, w k * rtot fun b n => x b k n * i b n : ℝ) : EReal) := by
      rw [coe_sum]
      refine Finset.sum_congr rfl fun k _ => ?_
      simp only [ind_coe, ← EReal.coe_mul]
      rw [tot_coe, ← EReal.coe_mul]
    rw [h1, hcnt, ← EReal.coe_one, ← coe_max, hmaxC, Ideal.div_coe hC0, ← EReal.coe_mul, ← EReal.coe_add, hsy,
      ← EReal.coe_mul]
  have hkvar : kvar (tot fun b n => ind (p b n))
      (∑ k, (w k : EReal) * tot fun b n => (x b k n : EReal) * ind (p b n))
      (tot fun b n => (yr b n : EReal) * (yr b n : EReal) * ind (p b n)) (c : EReal) = (v : EReal) := by
    unfold kvar
    rw [hkmean, hcnt, ← EReal.coe_one, ← coe_max, hmaxC, Ideal.div_coe hC0]
    simp only [ind_coe, ← EReal.coe_mul]
    rw [tot_coe, ← EReal.coe_mul, ← EReal.coe_sub, ← variance_eq C μ i yr hC0 hCdef.symm hμ, ← EReal.coe_zero,
      ← coe_max, max_eq_left hv0]
  set s : ℝ := Real.sqrt (v + e) with hs
  have hve : 0 < v + e := by linarith
  have hs0 : 0 < s := Real.sqrt_pos.mpr hve
  have hsqrt : Ideal.sqrt ((v : EReal) + (e : EReal)) = (s : EReal) := by
    rw [← EReal.coe_add, Ideal.sqrt_coe, if_neg (not_lt.mpr hve.le)]
  have hrsqrt : Ideal.rsqrt ((v : EReal) + (e : EReal)) = ((s⁻¹ : ℝ) : EReal) := by
    rw [← EReal.coe_add, Ideal.rsqrt_coe, if_neg (not_lt.mpr hve.le), if_neg hve.ne']
  have hscale : (0 : EReal) ≤ ((s⁻¹ : ℝ) : EReal) * g :=
    mul_nonneg (EReal.coe_nonneg.mpr (inv_nonneg.mpr hs0.le)) hg
  have hnorm : ∀ n, rnorm (e : EReal) p (fun b n => (yr b n : EReal)) g d b n
      = ((yr b n : EReal) - (μ : EReal)) * (((s⁻¹ : ℝ) : EReal) * g) + d := fun n => by
    unfold rnorm
    rw [hrmean, hrvar, hsqrt, Ideal.div_coe hs0.ne', one_div, mul_assoc]
  obtain ⟨n, hn, h1, h2⟩ := top_image (p b) (fun n => (yr b n : EReal))
    (fun n => rnorm (e : EReal) p (fun b n => (yr b n : EReal)) g d b n) ⟨n₀, hn₀⟩ (fun n m _ _ hle => by
      simp only [hnorm]
      exact add_le_add (mul_le_mul_of_nonneg_right (EReal.sub_le_sub hle le_rfl) hscale) le_rfl)
  unfold kseg rseg
  rw [h2]
  simp only [h1]
  rw [if_neg (EReal.coe_ne_bot _), hkmean, hkvar, hrsqrt, hnorm]

end Cert.Rings

end
-- ==== Proof.Scalars.lean ====
/- The scalars both programs share: when a point belongs to a ring, the one-hot weight of a point, the constants. -/
module

public import proofs.«01_k».proof.Proof.Algebra
public import Idealize.ShloMosaic.PureOps.Ideal.Laws

@[expose] public section

set_option maxRecDepth 16384

noncomputable section

open Idealize.ShloMosaic

namespace Cert.Rings

/-- The point with ring value `v` belongs to ring `r`. -/
def hit (v : EReal) (r : ℕ) : Prop := FloatOps.fptosi (F := Ideal) (φ := .f32) 32 v = BitVec.ofNat 32 r

instance (v : EReal) (r : ℕ) : Decidable (hit v r) := by unfold hit; infer_instance

/-- The variance's regulariser. -/
def eps : EReal := Ideal.ofBits .f32 0x3727C5AC#32

theorem eps_coe : ∃ e : ℝ, 0 < e ∧ eps = (e : EReal) := by
  refine ⟨(2 : ℝ) ^ (-17 : ℤ) * (1 + 2606508 / 8388608), by positivity, ?_⟩
  unfold eps
  simp [Ideal.ofBits, Ideal.ieee, -EReal.coe_mul]
  norm_num

theorem bits_bot : Ideal.ofBits .f32 0xFF800000#32 = (⊥ : EReal) := by simp [Ideal.ofBits, Ideal.ieee]
theorem bits_zero : Ideal.ofBits .f32 0#32 = (0 : EReal) := by simp [Ideal.ofBits, Ideal.ieee]

/-- Comparing two words. -/
theorem cmpi_eq {w : Nat} (a b : BitVec w) : IntOp.cmpi .eq a b = if a = b then 1#1 else 0#1 := by
  by_cases h : a = b
  · subst h; simp [IntOp.cmpi]
  · have hf : (a == b) = false := beq_eq_false_iff_ne.mpr h
    simp [IntOp.cmpi, hf, h]

theorem select_eq {w : Nat} {α : Type} (a b : BitVec w) (x y : α) :
    Scalar.select (IntOp.cmpi .eq a b) x y = if a = b then x else y := by
  rw [cmpi_eq]; by_cases h : a = b <;> simp [Scalar.select, h]

theorem uitofp_eq {w : Nat} (a b : BitVec w) :
    FloatOps.uitofp (F := Ideal) .f32 (IntOp.cmpi .eq a b) = ind (a = b) := by
  rw [cmpi_eq]; unfold ind
  by_cases h : a = b
  · rw [if_pos h, if_pos h]; change (((1#1 : BitVec 1).toNat : ℝ) : EReal) = 1; simp
  · rw [if_neg h, if_neg h]; change (((0#1 : BitVec 1).toNat : ℝ) : EReal) = 0; simp

theorem sitofp_eq {w : Nat} (a b : BitVec w) :
    FloatOps.sitofp (F := Ideal) .f32 (BitVec.setWidth 32 (IntOp.cmpi .eq a b)) = ind (a = b) := by
  rw [cmpi_eq]; unfold ind
  by_cases h : a = b
  · rw [if_pos h, if_pos h]; change (((BitVec.setWidth 32 1#1).toInt : ℝ) : EReal) = 1; simp
  · rw [if_neg h, if_neg h]; change (((BitVec.setWidth 32 0#1).toInt : ℝ) : EReal) = 0; simp

theorem mul_ind (a : EReal) (q : Prop) [Decidable q] : a * ind q = if q then a else 0 := by
  unfold ind; split <;> simp

/-- A one-hot sum picks its term. -/
theorem sum_mul_ind {n : Nat} (f : Fin n → EReal) (r : Fin n) : ∑ x, f x * ind (r = x) = f r := by
  simp only [mul_ind]; simp

end Cert.Rings

end
-- ==== Proof.Pre.lean ====
/- What the precondition says of the inputs: the features, the weights and the biases are real, and no gain is negative. -/
module

public import proofs.«01_k».proof.Pre_finite_with_nonnegative_gamma
public import proofs.«01_k».proof.Proof.Scalars
public import Idealize.ShloMosaic.Lib.Pipeline.ValueKit

@[expose] public section

set_option maxRecDepth 16384

noncomputable section

namespace Cert.Rings.Pre

open Idealize.ShloMosaic
open Cert.Pre_finite_with_nonnegative_gamma

/-- The shape facts the predicate's operations take. -/
theorem facts : Facts := ⟨by decide, by decide, by decide⟩

variable [Facts]

/-- A value of size below infinity is a real. -/
theorem real_of_abs {a : EReal} (h : max a (-a) < ⊤) : ∃ r : ℝ, a = (r : EReal) := by
  induction a using EReal.rec with
  | bot => simp at h
  | coe r => exact ⟨r, rfl⟩
  | top => simp at h

variable (x0 : FVec Ideal S8x64x16384 .f32) (x1 : FVec Ideal S8x16384 .f32) (x2 : FVec Ideal S16x128x64 .f32)
  (x3 x4 x5 : FVec Ideal S16x128 .f32)

/-- The test for size below infinity, passed. -/
theorem real_of_test {a : EReal}
    (h : BitVec.ofBool (decide (FloatOps.absf (F := Ideal) (φ := .f32) a < Ideal.ofBits .f32 0x7F800000#32)) = 1#1) :
    ∃ r : ℝ, a = (r : EReal) := by
  refine real_of_abs ?_
  have h' : FloatOps.absf (F := Ideal) (φ := .f32) a < Ideal.ofBits .f32 0x7F800000#32 := by
    by_contra hc
    rw [decide_eq_false hc] at h
    exact absurd h (by decide)
  exact lt_of_lt_of_eq h' (by simp [Ideal.ofBits, Ideal.ieee])

theorem feat_real (h : (fn (F := Ideal) x0 x1 x2 x3 x4 x5).1 = fun _ => 1#1) (b : Fin 8) (k : Fin 64) (n : Fin 16384) :
    ∃ r : ℝ, x0 (ix3 b k n) = (r : EReal) := by
  have := congrFun h (ix3 b k n)
  unfold fn at this
  pointwise at this
  exact real_of_test this

theorem weight_real (h : (fn (F := Ideal) x0 x1 x2 x3 x4 x5).2.1 = fun _ => 1#1) (r : Fin 16) (o : Fin 128) (k : Fin 64) :
    ∃ w : ℝ, x2 (ix3 r o k) = (w : EReal) := by
  have := congrFun h (ix3 r o k)
  unfold fn at this
  pointwise at this
  exact real_of_test this

theorem bias_real (h : (fn (F := Ideal) x0 x1 x2 x3 x4 x5).2.2.1 = fun _ => 1#1) (r : Fin 16) (o : Fin 128) :
    ∃ w : ℝ, x3 (ix2 r o) = (w : EReal) := by
  have := congrFun h (ix2 r o)
  unfold fn at this
  pointwise at this
  exact real_of_test this

theorem gain_nonneg (h : (fn (F := Ideal) x0 x1 x2 x3 x4 x5).2.2.2 = fun _ => 1#1) (r : Fin 16) (o : Fin 128) :
    (0 : EReal) ≤ x4 (ix2 r o) := by
  have := congrFun h (ix2 r o)
  unfold fn at this
  pointwise at this
  by_contra hc
  rw [decide_eq_false hc] at this
  exact absurd this (by decide)

end Cert.Rings.Pre

end
-- ==== Proof.Payloads.lean ====
/- What each stage of the kernel computes from the blocks it has loaded, read at an index. -/
module

public import proofs.«01_k».proof.Proof.Gen.KernelIdeal.Skeleton
public import proofs.«01_k».proof.Proof.Scalars
public import Idealize.ShloMosaic.Lib.Pointwise

@[expose] public section

set_option maxRecDepth 16384

noncomputable section

namespace Cert.Rings.Pay

open Idealize.ShloMosaic
open Cert.KernelIdeal Cert.KernelIdeal.Gen

/-! ## The statistics pass: one tile of 512 positions of one batch -/

/-- The one-hot weight of the tile's position `n` in ring `r`. -/
theorem oh_at (v17 : FVec Ideal S1x1x512 .f32) (r : Fin 16) (n : Fin 512) :
    k0_pay11 (F := Ideal) v17 (ix2 r n) = ind (hit (v17 (ix3 0 0 n)) r) := by
  pointwise [k0_pay11, k0_pay10]
  exact sitofp_eq _ _

/-- The tile's values: the weights' row `q` on the position's features, plus the bias. -/
theorem y_at (v8 : FVec Ideal S1x64x512 .f32) (v10 : FVec Ideal S2048x64 .f32) (v13 : FVec Ideal S2048x1 .f32) (q : Fin 2048) (n : Fin 512) :
    k0_pay9 (F := Ideal) v8 v10 v13 (ix2 q n) = (∑ k : Fin 64, v10 (ix2 q k) * v8 (ix3 0 k n)) + v13 (ix2 q 0) := by
  pointwise [k0_pay9, k0_pay8]

theorem cnt_at (v17 : FVec Ideal S1x1x512 .f32) (a : FVec Ideal S1x16 .f32) (r : Fin 16) :
    k0_pay12 (F := Ideal) v17 a (ix2 0 r) = a (ix2 0 r) + ∑ n : Fin 512, ind (hit (v17 (ix3 0 0 n)) r) := by
  pointwise [k0_pay12]
  simp only [oh_at]

theorem sx_at (v8 : FVec Ideal S1x64x512 .f32) (v17 : FVec Ideal S1x1x512 .f32) (a : FVec Ideal S64x16 .f32) (k : Fin 64) (r : Fin 16) :
    k0_pay1 (F := Ideal) (k0_pay8 v8) (k0_pay11 v17) a (ix2 k r)
      = a (ix2 k r) + ∑ n : Fin 512, v8 (ix3 0 k n) * ind (hit (v17 (ix3 0 0 n)) r) := by
  pointwise [k0_pay1, k0_pay8]
  simp only [oh_at]

theorem ssq_at (v16 : FVec Ideal S2048x512 .f32) (v17 : FVec Ideal S1x1x512 .f32) (a : FVec Ideal S2048x16 .f32) (q : Fin 2048) (r : Fin 16) :
    k0_pay2 (F := Ideal) v16 (k0_pay11 v17) a (ix2 q r)
      = a (ix2 q r) + ∑ n : Fin 512, v16 (ix2 q n) * v16 (ix2 q n) * ind (hit (v17 (ix3 0 0 n)) r) := by
  pointwise [k0_pay2]
  simp only [oh_at]

/-- The row of the stacked weights that holds ring `r`'s channel `o`. -/
def row (r : Fin 16) (o : Fin 128) : Fin 2048 := ⟨r.val * 128 + o.val, by omega⟩

theorem max_at (v16 : FVec Ideal S2048x512 .f32) (v17 : FVec Ideal S1x1x512 .f32) (a : FVec Ideal S1x16x128 .f32) (r : Fin 16) (o : Fin 128) :
    k0_pay3 (F := Ideal) v16 (k0_pay10 (F := Ideal) v17) a (ix3 0 r o)
      = max (a (ix3 0 r o)) ((Finset.univ : Finset (Fin 512)).fold max ⊥ fun n =>
          if hit (v17 (ix3 0 0 n)) r then v16 (ix2 (row r o) n) else ⊥) := by
  pointwise [k0_pay3, k0_pay10]
  simp only [select_eq, bits_bot]
  rfl

theorem fill_at (r : Fin 16) (o : Fin 128) : k0_pay7 (F := Ideal) (ix3 0 r o) = (⊥ : EReal) := by
  pointwise [k0_pay7]
  exact bits_bot

theorem zero4_at (k : Fin 64) (r : Fin 16) : k0_pay4 (F := Ideal) (ix2 k r) = (0 : EReal) := by pointwise [k0_pay4]
theorem zero5_at (q : Fin 2048) (r : Fin 16) : k0_pay5 (F := Ideal) (ix2 q r) = (0 : EReal) := by pointwise [k0_pay5]
theorem zero6_at (r : Fin 16) : k0_pay6 (F := Ideal) (ix2 0 r) = (0 : EReal) := by pointwise [k0_pay6]

/-! ## The table pass -/

/-- The quotient by 128 rounded down, as the kernel spells it on words. -/
def quot (q : BitVec 32) : BitVec 32 :=
  Scalar.select
    (IntOp.andi
      (IntOp.cmpi CmpIPredicate.ne
        (IntOp.subi (BitVec.setWidth 32 (IntOp.cmpi CmpIPredicate.sgt q 0#32))
          (BitVec.setWidth 32 (IntOp.cmpi CmpIPredicate.slt q 0#32)))
        (Scalar.subi (Scalar.extui (Scalar.cmpi CmpIPredicate.sgt 128#32 0#32))
          (Scalar.extui (Scalar.cmpi CmpIPredicate.slt 128#32 0#32))))
      (IntOp.cmpi CmpIPredicate.ne (IntOp.remsi ArithUnit.vector q 128#32) 0#32))
    (IntOp.subi (IntOp.divsi ArithUnit.vector q 128#32) 1#32)
    (IntOp.divsi ArithUnit.vector q 128#32)

theorem quot_eq : ∀ q : Fin 2048, quot (BitVec.ofNat 32 q.val) = BitVec.ofNat 32 (q.val / 128) := by decide +kernel

theorem dmask_at (r : Fin 16) (o : Fin 128) (x : Fin 16) : k1_pay3 (F := Ideal) (ix2 (row r o) x) = ind (r = x) := by
  have h : k1_pay3 (F := Ideal) (ix2 (row r o) x) = FloatOps.sitofp (F := Ideal) .f32 (BitVec.setWidth 32
      (IntOp.cmpi .eq (quot (BitVec.ofNat 32 (row r o).val)) (BitVec.ofNat 32 x.val))) := by
    generalize row r o = q
    pointwise [k1_pay3]
    rfl
  rw [h, quot_eq, sitofp_eq]
  have hq : (row r o).val / 128 = r.val := by unfold row; simp only; omega
  rw [hq]
  have : (BitVec.ofNat 32 r.val = BitVec.ofNat 32 x.val) ↔ r = x := by
    constructor
    · intro e
      have e' := congrArg BitVec.toNat e
      simp only [BitVec.toNat_ofNat] at e'
      apply Fin.ext
      omega
    · rintro rfl; rfl
  unfold ind
  by_cases hx : r = x
  · rw [if_pos hx, if_pos (this.mpr hx)]
  · rw [if_neg hx, if_neg fun e => hx (this.mp e)]

theorem sy_at (v36 : FVec Ideal S2048x64 .f32) (v38 : FVec Ideal S64x16 .f32) (r : Fin 16) (o : Fin 128) :
    k1_pay4 (F := Ideal) v36 v38 (ix2 r o) = ∑ k : Fin 64, v36 (ix2 (row r o) k) * v38 (ix2 k r) := by
  pointwise [k1_pay4]
  refine Eq.trans (Finset.sum_congr rfl fun x _ => congrArg _ (dmask_at r o x)) ?_
  exact sum_mul_ind (fun x => ∑ k : Fin 64, v36 (ix2 (row r o) k) * v38 (ix2 k x)) r

/-- The table's entry of ring `r`'s channel `o` in batch `b`. -/
theorem tab_at (v0 : FVec Ideal S1x16 .f32) (v36 : FVec Ideal S2048x64 .f32) (v38 : FVec Ideal S64x16 .f32) (v44 : FVec Ideal S2048x16 .f32)
    (v49 v64 v65 : FVec Ideal S16x128 .f32) (v66 : FVec Ideal S8x16x128 .f32) (b : Fin 8) (r : Fin 16) (o : Fin 128) :
    k1_pay5 (F := Ideal) (k1_pay1 v0) (k1_pay2 v0) (k1_pay3 (F := Ideal)) (k1_pay4 v36 v38) v44 v49 v64 v65 v66 (ix3 b r o)
      = kseg eps (v0 (ix2 0 r)) (∑ k : Fin 64, v36 (ix2 (row r o) k) * v38 (ix2 k r)) (v44 (ix2 (row r o) r)) (v49 (ix2 r o))
          (v64 (ix2 r o)) (v65 (ix2 r o)) (v66 (ix3 b r o)) := by
  have hs : (∑ x : Fin 16, v44 (ix2 (row r o) x) * k1_pay3 (F := Ideal) (ix2 (row r o) x)) = v44 (ix2 (row r o) r) :=
    Eq.trans (Finset.sum_congr rfl fun x _ => congrArg _ (dmask_at r o x)) (sum_mul_ind (fun x => v44 (ix2 (row r o) x)) r)
  pointwise [k1_pay5, k1_pay1, k1_pay2]
  rw [bits_bot]
  rw [sy_at, show (∑ x : Fin 16, v44 (ix2 ⟨r.val * 128 + o.val, _⟩ x) * k1_pay3 (F := Ideal) (ix2 ⟨r.val * 128 + o.val, _⟩ x))
    = v44 (ix2 (row r o) r) from hs]
  rfl

/-! ## The lookup pass -/

theorem out_at (v0 : FVec Ideal S1x1x2048 .f32) (v9 : FVec Ideal S1x16x128 .f32) (o : Fin 128) (n : Fin 2048) :
    k2_pay1 (F := Ideal) v0 v9 (ix3 0 o n) = ∑ r : Fin 16, v9 (ix3 0 r o) * ind (hit (v0 (ix3 0 0 n)) r) := by
  pointwise [k2_pay1]
  exact Finset.sum_congr rfl fun r _ => congrArg _ (sitofp_eq _ _)

end Cert.Rings.Pay

end
-- ==== Proof.Region0.lean ====
/- The statistics pass: what its four result arrays hold, from the arrays it reads. -/
module

public import proofs.«01_k».proof.Proof.Gen.KernelIdeal.Frame
public import proofs.«01_k».proof.Proof.Payloads
public import Idealize.ShloMosaic.Lib.Pipeline.ValueKit

@[expose] public section

set_option maxRecDepth 16384

noncomputable section

namespace Cert.Rings.Stats

open Idealize.ShloMosaic Idealize.ShloMosaic.TcCoe Idealize.SL.Sem
open Idealize.ShloMosaic.Pipeline (Dat)
open Cert.KernelIdeal Cert.KernelIdeal.Gen Cert.Rings.Pay

variable (V : (c : Dev nD) → (b : Ref sig .tc) → Buf (Elt Ideal) ((c : Thread nD τ).loc b)) (c : Dev nD)

/-! ## The arrays the pass reads -/

/-- The features, the ring values, the stacked weights and the stacked biases. -/
def feat : FVec Ideal S8x64x16384 .f32 := V c main_arg0
def ring : FVec Ideal S8x1x16384 .f32 := V c main_call0_v2
def wts : FVec Ideal S2048x64 .f32 := V c main_call0_v0
def bias : FVec Ideal S2048x1 .f32 := V c main_call0_v1

/-- Ring `r`'s points, and the value of the stacked row `q` at a point. -/
abbrev mem (r : Fin 16) : Bt → Ps → Prop := fun b n => hit (ring V c (ix3 b 0 n)) r
abbrev lin (q : Fin 2048) : Bt → Ps → EReal := fun b n =>
  (∑ k : Fin 64, wts V c (ix2 q k) * feat V c (ix3 b k n)) + bias V c (ix2 q 0)

/-! ## The blocks at a point -/

theorem idx : ∀ t : Fin cfg0.N, win0_0.index t = ![t.val / 32, 0, t.val % 32] ∧ win0_1.index t = ![t.val / 32, 0, t.val % 32]
    ∧ win0_2.index t = ![0, 0] ∧ win0_3.index t = ![0, 0] ∧ win0_4.index t = ![t.val / 32, 0, 0]
    ∧ win0_5.index t = ![0, 0] ∧ win0_6.index t = ![0, 0] ∧ win0_7.index t = ![0, 0] :=
  (by decide +kernel : ∀ t : Fin grid0.N, _)

theorem lt_N (t : Fin cfg0.N) : t.val < 256 := lt_of_lt_of_eq t.isLt (show cfg0.N = 256 from N_0)

/-- The batch of grid point `t`, and the position its tile's lane `n` holds. -/
def bt (t : Fin cfg0.N) : Bt := ⟨t.val / 32, by have := lt_N t; omega⟩
def ps (t : Fin cfg0.N) (n : Fin 512) : Ps := ⟨t.val % 32 * 512 + n.val, by have := n.isLt; omega⟩

theorem blk_feat (t : Fin cfg0.N) (k : Fin 64) (n : Fin 512) :
    (iblk0 V c 0 t : FVec Ideal S1x64x512 .f32) (ix3 0 k n) = feat V c (ix3 (bt t) k (ps t n)) := by
  blk_simp [iblk0]
  exact congrArg (V c main_arg0) (by unfold bt ps; blk_ext [idx t])

theorem blk_ring (t : Fin cfg0.N) (n : Fin 512) :
    (iblk0 V c 1 t : FVec Ideal S1x1x512 .f32) (ix3 0 0 n) = ring V c (ix3 (bt t) 0 (ps t n)) := by
  blk_simp [iblk0]
  exact congrArg (V c main_call0_v2) (by unfold bt ps; blk_ext [idx t])

theorem blk_wts (t : Fin cfg0.N) (q : Fin 2048) (k : Fin 64) :
    (iblk0 V c 2 t : FVec Ideal S2048x64 .f32) (ix2 q k) = wts V c (ix2 q k) := by
  blk_simp [iblk0]
  exact congrArg (V c main_call0_v0) (by blk_ext [idx t])

theorem blk_bias (t : Fin cfg0.N) (q : Fin 2048) :
    (iblk0 V c 3 t : FVec Ideal S2048x1 .f32) (ix2 q 0) = bias V c (ix2 q 0) := by
  blk_simp [iblk0]
  exact congrArg (V c main_call0_v1) (by blk_ext [idx t])

theorem tile_at (t : Fin cfg0.N) (q : Fin 2048) (n : Fin 512) :
    k0_pay9 (F := Ideal) (iblk0 V c 0 t) (iblk0 V c 2 t) (iblk0 V c 3 t) (ix2 q n) = lin V c q (bt t) (ps t n) := by
  refine (y_at _ _ _ q n).trans ?_
  simp only [blk_feat, blk_wts, blk_bias]

/-! ## The three sums

The counts, the feature sums and the sums of squares start at zero at the first point and gain their tile's sum at every
point, so at the last point they hold the sum over all points, which is the sum over batches and positions. -/

theorem sum_tiles (g : Bt → Ps → EReal) : ∑ t : Fin cfg0.N, ∑ n : Fin 512, g (bt t) (ps t n) = tot g :=
  Fin.sum_points_lanes_congr (N := cfg0.N) (A := 8) (L := 16384) 32 (fun _ _ _ _ => rfl) N_0 rfl

/-- An entry that starts at zero at the first point and gains its tile's sum at every point ends at the total. -/
theorem total_of_run (f : (n : ℕ) → n < cfg0.N → EReal) (g : Bt → Ps → EReal)
    (h0 : ∀ t : Fin cfg0.N, t.val % 256 = 0 → f t.val t.isLt = 0 + ∑ n : Fin 512, g (bt t) (ps t n))
    (hs : ∀ t : Fin cfg0.N, ¬ t.val % 256 = 0 → f t.val t.isLt
      = f (t.val - 1) (Nat.lt_of_le_of_lt (Nat.sub_le _ _) t.isLt) + ∑ n : Fin 512, g (bt t) (ps t n))
    (t : Fin cfg0.N) (ht : t.val % 256 = 255) : f t.val t.isLt = tot g := by
  have hN : cfg0.N = 256 := N_0
  have hl := lt_N t
  rw [Pipeline.eq_sum_fin_of_reset_step_last f 256 0 (fun t => ∑ n : Fin 512, g (bt t) (ps t n)) h0 hs (le_of_eq hN) t
    (by omega), zero_add]
  exact sum_tiles g

theorem cnt_last (t : Fin cfg0.N) (ht : t.val % 256 = 255) (r : Fin 16) :
    (outsAt0 V c t.val t.isLt).2.2.2 (ix2 0 r) = tot fun b n => ind (mem V c r b n) := by
  refine total_of_run (fun n h => (outsAt0 V c n h).2.2.2 (ix2 0 r)) (fun b n => ind (mem V c r b n))
    (fun t h => ?_) (fun t h => ?_) t ht
  · show (outsAt0 V c t.val t.isLt).2.2.2 (ix2 0 r) = _
    rw [outsAt0_A V c t h (by omega)]
    frame_out
    refine (cnt_at _ _ r).trans ?_
    simp only [blk_ring, zero6_at]
  · show (outsAt0 V c t.val t.isLt).2.2.2 (ix2 0 r) = _
    by_cases h' : t.val % 32 = 0
    · rw [outsAt0_C V c t h h']
      frame_out
      refine (cnt_at _ _ r).trans ?_
      simp only [blk_ring]
    · rw [outsAt0_B V c t h h']
      frame_out
      refine (cnt_at _ _ r).trans ?_
      simp only [blk_ring]

theorem sx_last (t : Fin cfg0.N) (ht : t.val % 256 = 255) (k : Fin 64) (r : Fin 16) :
    (outsAt0 V c t.val t.isLt).2.1 (ix2 k r) = tot fun b n => feat V c (ix3 b k n) * ind (mem V c r b n) := by
  refine total_of_run (fun n h => (outsAt0 V c n h).2.1 (ix2 k r)) (fun b n => feat V c (ix3 b k n) * ind (mem V c r b n))
    (fun t h => ?_) (fun t h => ?_) t ht
  · show (outsAt0 V c t.val t.isLt).2.1 (ix2 k r) = _
    rw [outsAt0_A V c t h (by omega)]
    frame_out
    refine (sx_at _ _ _ k r).trans ?_
    simp only [blk_ring, blk_feat, zero4_at]
  · show (outsAt0 V c t.val t.isLt).2.1 (ix2 k r) = _
    by_cases h' : t.val % 32 = 0
    · rw [outsAt0_C V c t h h']
      frame_out
      refine (sx_at _ _ _ k r).trans ?_
      simp only [blk_ring, blk_feat]
    · rw [outsAt0_B V c t h h']
      frame_out
      refine (sx_at _ _ _ k r).trans ?_
      simp only [blk_ring, blk_feat]

theorem ssq_last (t : Fin cfg0.N) (ht : t.val % 256 = 255) (q : Fin 2048) (r : Fin 16) :
    (outsAt0 V c t.val t.isLt).2.2.1 (ix2 q r) = tot fun b n => lin V c q b n * lin V c q b n * ind (mem V c r b n) := by
  refine total_of_run (fun n h => (outsAt0 V c n h).2.2.1 (ix2 q r))
    (fun b n => lin V c q b n * lin V c q b n * ind (mem V c r b n)) (fun t h => ?_) (fun t h => ?_) t ht
  · show (outsAt0 V c t.val t.isLt).2.2.1 (ix2 q r) = _
    rw [outsAt0_A V c t h (by omega)]
    frame_out
    refine (ssq_at _ _ _ q r).trans ?_
    simp only [blk_ring, tile_at, zero5_at]
  · show (outsAt0 V c t.val t.isLt).2.2.1 (ix2 q r) = _
    by_cases h' : t.val % 32 = 0
    · rw [outsAt0_C V c t h h']
      frame_out
      refine (ssq_at _ _ _ q r).trans ?_
      simp only [blk_ring, tile_at]
    · rw [outsAt0_B V c t h h']
      frame_out
      refine (ssq_at _ _ _ q r).trans ?_
      simp only [blk_ring, tile_at]

/-! ## The maxima

The maxima start at minus infinity at each batch's first tile and take their tile's largest entry at every tile, so after
tile `j` they are the largest entry among the positions of tiles `0` to `j`. -/

/-- A value below which an entry started at minus infinity and raised tile by tile stays: what bounds every position so far. -/
theorem top_of_run (f : (n : ℕ) → n < cfg0.N → EReal) (g : Bt → Ps → EReal)
    (h0 : ∀ t : Fin cfg0.N, t.val % 32 = 0 → f t.val t.isLt
      = max ⊥ (Finset.univ.fold max ⊥ fun n : Fin 512 => g (bt t) (ps t n)))
    (hs : ∀ t : Fin cfg0.N, ¬ t.val % 32 = 0 → f t.val t.isLt
      = max (f (t.val - 1) (Nat.lt_of_le_of_lt (Nat.sub_le _ _) t.isLt))
          (Finset.univ.fold max ⊥ fun n : Fin 512 => g (bt t) (ps t n)))
    (z : EReal) : ∀ (a : ℕ) (ha : a < cfg0.N),
      f a ha ≤ z ↔ ∀ n : Ps, n.val < (a % 32 + 1) * 512 → g (bt ⟨a, ha⟩) n ≤ z := by
  have tile : ∀ t : Fin cfg0.N, (Finset.univ.fold max ⊥ fun n : Fin 512 => g (bt t) (ps t n)) ≤ z
      ↔ ∀ n : Ps, t.val % 32 * 512 ≤ n.val → n.val < (t.val % 32 + 1) * 512 → g (bt t) n ≤ z := fun t => by
    rw [Finset.fold_max_le]
    constructor
    · rintro ⟨-, h⟩ n h1 h2
      have e : ps t ⟨n.val - t.val % 32 * 512, by omega⟩ = n := Fin.ext (by
        show t.val % 32 * 512 + (n.val - t.val % 32 * 512) = n.val
        omega)
      exact e ▸ h ⟨n.val - t.val % 32 * 512, by omega⟩ (Finset.mem_univ _)
    · refine fun h => ⟨bot_le, fun k _ => h _ ?_ ?_⟩
      · show t.val % 32 * 512 ≤ t.val % 32 * 512 + k.val
        omega
      · show t.val % 32 * 512 + k.val < _
        have := k.isLt
        omega
  intro a
  induction a with
  | zero =>
    intro ha
    rw [show f 0 ha = _ from h0 ⟨0, ha⟩ rfl, max_le_iff, tile]
    exact ⟨fun h n hn => h.2 n (by simp) hn, fun h => ⟨bot_le, fun n _ hn => h n hn⟩⟩
  | succ a ih =>
    intro ha
    by_cases h : (a + 1) % 32 = 0
    · rw [show f (a + 1) ha = _ from h0 ⟨a + 1, ha⟩ h, max_le_iff, tile]
      refine ⟨fun h' n hn => h'.2 n ?_ hn, fun h' => ⟨bot_le, fun n _ hn => h' n hn⟩⟩
      show (a + 1) % 32 * 512 ≤ n.val
      omega
    · have hb : bt ⟨a, Nat.lt_of_succ_lt ha⟩ = bt ⟨a + 1, ha⟩ := Fin.ext (by
        show a / 32 = (a + 1) / 32
        omega)
      rw [show f (a + 1) ha = _ from hs ⟨a + 1, ha⟩ h, max_le_iff, tile,
        show f ((⟨a + 1, ha⟩ : Fin cfg0.N).val - 1) _ = f a (Nat.lt_of_succ_lt ha) from rfl, ih, hb]
      constructor
      · rintro ⟨h1, h2⟩ n hn
        by_cases hc : n.val < (a % 32 + 1) * 512
        · exact h1 n hc
        · refine h2 n ?_ hn
          show (a + 1) % 32 * 512 ≤ n.val
          omega
      · refine fun h' => ⟨fun n hn => h' n ?_, fun n _ hn => h' n hn⟩
        omega

theorem max_last (t : Fin cfg0.N) (ht : t.val % 32 = 31) (r : Fin 16) (o : Fin 128) :
    (outsAt0 V c t.val t.isLt).1 (ix3 0 r o) = top fun n => if mem V c r (bt t) n then lin V c (row r o) (bt t) n else ⊥ := by
  refine eq_of_forall_ge_iff fun z => ?_
  refine (top_of_run (fun n h => (outsAt0 V c n h).1 (ix3 0 r o))
    (fun b n => if mem V c r b n then lin V c (row r o) b n else ⊥) (fun t h => ?_) (fun t h => ?_) z t.val t.isLt).trans ?_
  · show (outsAt0 V c t.val t.isLt).1 (ix3 0 r o) = _
    by_cases h' : t.val % 256 = 0
    · rw [outsAt0_A V c t h' h]
      frame_out
      refine (max_at _ _ _ r o).trans ?_
      simp only [blk_ring, tile_at, fill_at]
    · rw [outsAt0_C V c t h' h]
      frame_out
      refine (max_at _ _ _ r o).trans ?_
      simp only [blk_ring, tile_at, fill_at]
  · show (outsAt0 V c t.val t.isLt).1 (ix3 0 r o) = _
    rw [outsAt0_B V c t (by omega) h]
    frame_out
    refine (max_at _ _ _ r o).trans ?_
    simp only [blk_ring, tile_at]
  · unfold top
    rw [Finset.fold_max_le]
    refine ⟨fun h => ⟨bot_le, fun n _ => h n ?_⟩, fun h n _ => h.2 n (Finset.mem_univ n)⟩
    have := n.isLt
    omega

/-! ## The four result arrays -/

theorem emb4 (t : Fin cfg0.N) (r : Fin 16) (o : Fin 128) :
    ((win0_4.blk t).view.emb (ix3 0 r o : S1x16x128.Idx) : S8x16x128.Idx) = ix3 (bt t) r o := by
  unfold bt; blk_ext [idx t]

theorem emb5 (t : Fin cfg0.N) (k : Fin 64) (r : Fin 16) :
    ((win0_5.blk t).view.emb (ix2 k r : S64x16.Idx) : S64x16.Idx) = ix2 k r := by
  blk_ext [idx t]

theorem emb6 (t : Fin cfg0.N) (q : Fin 2048) (r : Fin 16) :
    ((win0_6.blk t).view.emb (ix2 q r : S2048x16.Idx) : S2048x16.Idx) = ix2 q r := by
  blk_ext [idx t]

theorem emb7 (t : Fin cfg0.N) (r : Fin 16) :
    ((win0_7.blk t).view.emb (ix2 0 r : S1x16.Idx) : S1x16.Idx) = ix2 0 r := by
  blk_ext [idx t]

/-- The largest entry of ring `r` in batch `b`, and the three totals. -/
def maxOf (b : Bt) (r : Fin 16) (o : Fin 128) : EReal :=
  top fun n => if mem V c r b n then lin V c (row r o) b n else ⊥
def sxOf (k : Fin 64) (r : Fin 16) : EReal := tot fun b n => feat V c (ix3 b k n) * ind (mem V c r b n)
def ssqOf (q : Fin 2048) (r : Fin 16) : EReal := tot fun b n => lin V c q b n * lin V c q b n * ind (mem V c r b n)
def cntOf (r : Fin 16) : EReal := tot fun b n => ind (mem V c r b n)

theorem arr_max : (dat0 V c).arrAt 4 cfg0.N = (fun j => maxOf V c (j 0) (j 1) (j 2) : FVec Ideal S8x16x128 .f32) := by
  refine (dat0 V c).arrAt_eq_of_covers 4 _ (by decide +kernel) fun t hf y => ?_
  blk_simp
  rw [after0_4]
  have key : ∀ j : S1x16x128.Idx, (outsAt0 V c t.val t.isLt).1 j
      = (fun j => maxOf V c (j 0) (j 1) (j 2) : FVec Ideal S8x16x128 .f32) ((win0_4.blk t).view.emb j) := by
    intro j
    idx_vars j
    obtain rfl : j0 = 0 := Subsingleton.elim _ _
    rw [emb4]
    exact max_last V c t ((flush0_4 t).mp hf) _ _
  exact key y

theorem arr_sx : (dat0 V c).arrAt 5 cfg0.N = (fun j => sxOf V c (j 0) (j 1) : FVec Ideal S64x16 .f32) := by
  refine (dat0 V c).arrAt_eq_of_covers 5 _ (by decide +kernel) fun t hf y => ?_
  blk_simp
  rw [after0_5]
  have key : ∀ j : S64x16.Idx, (outsAt0 V c t.val t.isLt).2.1 j
      = (fun j => sxOf V c (j 0) (j 1) : FVec Ideal S64x16 .f32) ((win0_5.blk t).view.emb j) := by
    intro j
    idx_vars j
    rw [emb5]
    exact sx_last V c t ((flush0_5 t).mp hf) _ _
  exact key y

theorem arr_ssq : (dat0 V c).arrAt 6 cfg0.N = (fun j => ssqOf V c (j 0) (j 1) : FVec Ideal S2048x16 .f32) := by
  refine (dat0 V c).arrAt_eq_of_covers 6 _ (by decide +kernel) fun t hf y => ?_
  blk_simp
  rw [after0_6]
  have key : ∀ j : S2048x16.Idx, (outsAt0 V c t.val t.isLt).2.2.1 j
      = (fun j => ssqOf V c (j 0) (j 1) : FVec Ideal S2048x16 .f32) ((win0_6.blk t).view.emb j) := by
    intro j
    idx_vars j
    rw [emb6]
    exact ssq_last V c t ((flush0_6 t).mp hf) _ _
  exact key y

theorem arr_cnt : (dat0 V c).arrAt 7 cfg0.N = (fun j => cntOf V c (j 1) : FVec Ideal S1x16 .f32) := by
  refine (dat0 V c).arrAt_eq_of_covers 7 _ (by decide +kernel) fun t hf y => ?_
  blk_simp
  rw [after0_7]
  have key : ∀ j : S1x16.Idx, (outsAt0 V c t.val t.isLt).2.2.2 j
      = (fun j => cntOf V c (j 1) : FVec Ideal S1x16 .f32) ((win0_7.blk t).view.emb j) := by
    intro j
    idx_vars j
    obtain rfl : j0 = 0 := Subsingleton.elim _ _
    rw [emb7]
    exact cnt_last V c t ((flush0_7 t).mp hf) _
  exact key y

end Cert.Rings.Stats

end
-- ==== Proof.Region1.lean ====
/- The table pass: what its result array holds, from the arrays it reads. -/
module

public import proofs.«01_k».proof.Proof.Gen.KernelIdeal.Frame
public import proofs.«01_k».proof.Proof.Payloads
public import Idealize.ShloMosaic.Lib.Pipeline.ValueKit

@[expose] public section

set_option maxRecDepth 16384

noncomputable section

namespace Cert.Rings.Table

open Idealize.ShloMosaic Idealize.ShloMosaic.TcCoe Idealize.SL.Sem
open Idealize.ShloMosaic.Pipeline (Dat)
open Cert.KernelIdeal Cert.KernelIdeal.Gen Cert.Rings.Pay

variable (V : (c : Dev nD) → (b : Ref sig .tc) → Buf (Elt Ideal) ((c : Thread nD τ).loc b)) (c : Dev nD)

/-! ## The arrays the pass reads -/

/-- The maxima, the feature sums, the sums of squares, the counts, the weights, the biases, the gains and the offsets. -/
def mx : FVec Ideal S8x16x128 .f32 := V c main_call0_v3_0
def sx : FVec Ideal S64x16 .f32 := V c main_call0_v3_1
def ssq : FVec Ideal S2048x16 .f32 := V c main_call0_v3_2
def cnt : FVec Ideal S1x16 .f32 := V c main_call0_v3_3
def wts : FVec Ideal S2048x64 .f32 := V c main_call0_v0
def bias : FVec Ideal S16x128 .f32 := V c main_arg3
def gain : FVec Ideal S16x128 .f32 := V c main_arg4
def shift : FVec Ideal S16x128 .f32 := V c main_arg5

theorem idx : ∀ t : Fin cfg1.N, win1_0.index t = ![0, 0, 0] ∧ win1_1.index t = ![0, 0] ∧ win1_2.index t = ![0, 0]
    ∧ win1_3.index t = ![0, 0] ∧ win1_4.index t = ![0, 0] ∧ win1_5.index t = ![0, 0] ∧ win1_6.index t = ![0, 0]
    ∧ win1_7.index t = ![0, 0] ∧ win1_8.index t = ![0, 0, 0] :=
  (by decide +kernel : ∀ t : Fin grid1.N, _)

/-! ## Each block is its whole array -/

theorem blk_mx (t : Fin cfg1.N) (j : S8x16x128.Idx) : (iblk1 V c 0 t : FVec Ideal S8x16x128 .f32) j = mx V c j := by
  idx_vars j
  blk_simp [iblk1]
  exact congrArg (V c main_call0_v3_0) (by blk_ext [idx t])

theorem blk_sx (t : Fin cfg1.N) (j : S64x16.Idx) : (iblk1 V c 1 t : FVec Ideal S64x16 .f32) j = sx V c j := by
  idx_vars j
  blk_simp [iblk1]
  exact congrArg (V c main_call0_v3_1) (by blk_ext [idx t])

theorem blk_ssq (t : Fin cfg1.N) (j : S2048x16.Idx) : (iblk1 V c 2 t : FVec Ideal S2048x16 .f32) j = ssq V c j := by
  idx_vars j
  blk_simp [iblk1]
  exact congrArg (V c main_call0_v3_2) (by blk_ext [idx t])

theorem blk_cnt (t : Fin cfg1.N) (j : S1x16.Idx) : (iblk1 V c 3 t : FVec Ideal S1x16 .f32) j = cnt V c j := by
  idx_vars j
  blk_simp [iblk1]
  exact congrArg (V c main_call0_v3_3) (by blk_ext [idx t])

theorem blk_wts (t : Fin cfg1.N) (j : S2048x64.Idx) : (iblk1 V c 4 t : FVec Ideal S2048x64 .f32) j = wts V c j := by
  idx_vars j
  blk_simp [iblk1]
  exact congrArg (V c main_call0_v0) (by blk_ext [idx t])

theorem blk_bias (t : Fin cfg1.N) (j : S16x128.Idx) : (iblk1 V c 5 t : FVec Ideal S16x128 .f32) j = bias V c j := by
  idx_vars j
  blk_simp [iblk1]
  exact congrArg (V c main_arg3) (by blk_ext [idx t])

theorem blk_gain (t : Fin cfg1.N) (j : S16x128.Idx) : (iblk1 V c 6 t : FVec Ideal S16x128 .f32) j = gain V c j := by
  idx_vars j
  blk_simp [iblk1]
  exact congrArg (V c main_arg4) (by blk_ext [idx t])

theorem blk_shift (t : Fin cfg1.N) (j : S16x128.Idx) : (iblk1 V c 7 t : FVec Ideal S16x128 .f32) j = shift V c j := by
  idx_vars j
  blk_simp [iblk1]
  exact congrArg (V c main_arg5) (by blk_ext [idx t])

/-! ## The table -/

/-- One entry of the table. -/
def entry (b : Fin 8) (r : Fin 16) (o : Fin 128) : EReal :=
  kseg eps (cnt V c (ix2 0 r)) (∑ k, wts V c (ix2 (row r o) k) * sx V c (ix2 k r)) (ssq V c (ix2 (row r o) r))
    (bias V c (ix2 r o)) (gain V c (ix2 r o)) (shift V c (ix2 r o)) (mx V c (ix3 b r o))

theorem emb8 (t : Fin cfg1.N) (b : Fin 8) (r : Fin 16) (o : Fin 128) :
    ((win1_8.blk t).view.emb (ix3 b r o : S8x16x128.Idx) : S8x16x128.Idx) = ix3 b r o := by
  blk_ext [idx t]

theorem arr_table : (dat1 V c).arrAt 8 cfg1.N = (fun j => entry V c (j 0) (j 1) (j 2) : FVec Ideal S8x16x128 .f32) := by
  refine (dat1 V c).arrAt_eq_of_covers 8 _ (by decide +kernel) fun t hf y => ?_
  blk_simp
  rw [after1_8]
  frame_out
  have key : ∀ j : S8x16x128.Idx, k1_pay5 (k1_pay1 (iblk1 V c 3 t)) (k1_pay2 (iblk1 V c 3 t)) k1_pay3
      (k1_pay4 (iblk1 V c 4 t) (iblk1 V c 1 t)) (iblk1 V c 2 t) (iblk1 V c 5 t) (iblk1 V c 6 t) (iblk1 V c 7 t)
      (iblk1 V c 0 t) j
      = (fun j => entry V c (j 0) (j 1) (j 2) : FVec Ideal S8x16x128 .f32) ((win1_8.blk t).view.emb j) := by
    intro j
    idx_vars j
    rw [emb8]
    refine (tab_at _ _ _ _ _ _ _ _ _ _ _).trans ?_
    simp only [blk_mx, blk_sx, blk_ssq, blk_cnt, blk_wts, blk_bias, blk_gain, blk_shift]
    rfl
  exact key y

end Cert.Rings.Table

end
-- ==== Proof.Region2.lean ====
/- The lookup pass: what the result array holds, from the arrays it reads. -/
module

public import proofs.«01_k».proof.Proof.Gen.KernelIdeal.Frame
public import proofs.«01_k».proof.Proof.Payloads
public import Idealize.ShloMosaic.Lib.Pipeline.ValueKit

@[expose] public section

set_option maxRecDepth 16384

noncomputable section

namespace Cert.Rings.Lookup

open Idealize.ShloMosaic Idealize.ShloMosaic.TcCoe Idealize.SL.Sem
open Idealize.ShloMosaic.Pipeline (Dat)
open Cert.KernelIdeal Cert.KernelIdeal.Gen Cert.Rings.Pay

variable (V : (c : Dev nD) → (b : Ref sig .tc) → Buf (Elt Ideal) ((c : Thread nD τ).loc b)) (c : Dev nD)

/-- The ring values and the table. -/
def ring : FVec Ideal S8x1x16384 .f32 := V c main_call0_v2
def table : FVec Ideal S8x16x128 .f32 := V c main_call0_v4

theorem idx : ∀ t : Fin cfg2.N, win2_0.index t = ![t.val / 8, 0, t.val % 8] ∧ win2_1.index t = ![t.val / 8, 0, 0]
    ∧ win2_2.index t = ![t.val / 8, 0, t.val % 8] :=
  (by decide +kernel : ∀ t : Fin grid2.N, _)

theorem lt_N (t : Fin cfg2.N) : t.val < 64 := lt_of_lt_of_eq t.isLt (show cfg2.N = 64 from N_2)

/-- The batch of grid point `t`, and the position its tile's lane `n` holds. -/
def bt (t : Fin cfg2.N) : Bt := ⟨t.val / 8, by have := lt_N t; omega⟩
def ps (t : Fin cfg2.N) (n : Fin 2048) : Ps := ⟨t.val % 8 * 2048 + n.val, by have := n.isLt; omega⟩

theorem blk_ring (t : Fin cfg2.N) (n : Fin 2048) :
    (iblk2 V c 0 t : FVec Ideal S1x1x2048 .f32) (ix3 0 0 n) = ring V c (ix3 (bt t) 0 (ps t n)) := by
  blk_simp [iblk2]
  exact congrArg (V c main_call0_v2) (by unfold bt ps; blk_ext [idx t])

theorem blk_table (t : Fin cfg2.N) (r : Fin 16) (o : Fin 128) :
    (iblk2 V c 1 t : FVec Ideal S1x16x128 .f32) (ix3 0 r o) = table V c (ix3 (bt t) r o) := by
  blk_simp [iblk2]
  exact congrArg (V c main_call0_v4) (by unfold bt; blk_ext [idx t])

/-- One entry of the result. -/
def entry (b : Bt) (o : Fin 128) (n : Ps) : EReal :=
  ∑ r : Fin 16, table V c (ix3 b r o) * ind (hit (ring V c (ix3 b 0 n)) r)

theorem emb2 (t : Fin cfg2.N) (o : Fin 128) (n : Fin 2048) :
    ((win2_2.blk t).view.emb (ix3 0 o n : S1x128x2048.Idx) : S8x128x16384.Idx) = ix3 (bt t) o (ps t n) := by
  unfold bt ps; blk_ext [idx t]

theorem arr_out : (dat2 V c).arrAt 2 cfg2.N = (fun j => entry V c (j 0) (j 1) (j 2) : FVec Ideal S8x128x16384 .f32) := by
  refine (dat2 V c).arrAt_eq_of_covers 2 _ (by decide +kernel) fun t hf y => ?_
  blk_simp
  rw [after2_2]
  frame_out
  have key : ∀ j : S1x128x2048.Idx, k2_pay1 (iblk2 V c 0 t) (iblk2 V c 1 t) j
      = (fun j => entry V c (j 0) (j 1) (j 2) : FVec Ideal S8x128x16384 .f32) ((win2_2.blk t).view.emb j) := by
    intro j
    idx_vars j
    obtain rfl : j0 = 0 := Subsingleton.elim _ _
    rw [emb2]
    refine (out_at _ _ _ _).trans ?_
    simp only [blk_ring, blk_table]
    rfl
  exact key y

end Cert.Rings.Lookup

end
-- ==== Proof.KernelRun.lean ====
/- What the kernel's result array holds, from its argument arrays. -/
module

public import proofs.«01_k».proof.Proof.Region0
public import proofs.«01_k».proof.Proof.Region1
public import proofs.«01_k».proof.Proof.Region2
public import Idealize.ShloMosaic.Adequacy
public import Idealize.ShloMosaic.Init

@[expose] public section

set_option maxRecDepth 16384

noncomputable section

namespace Cert.Rings.Run

open Idealize.ShloMosaic Idealize.ShloMosaic.TcCoe Idealize.SL.Sem
open Cert.KernelIdeal Cert.KernelIdeal.Gen Cert.Rings.Pay

variable (m : (ℓ : Loc nD τ sig) → Buf (Elt Ideal) ℓ) (ρ : Dev nD → PrngReg) (c : Dev nD)

theorem row_div (r : Fin 16) (o : Fin 128) {h : (row r o).val / 128 < 16} : (⟨(row r o).val / 128, h⟩ : Fin 16) = r :=
  Fin.ext (by show (r.val * 128 + o.val) / 128 = r.val; have := o.isLt; omega)

theorem row_mod (r : Fin 16) (o : Fin 128) {h : (row r o).val % 128 < 128} : (⟨(row r o).val % 128, h⟩ : Fin 128) = o :=
  Fin.ext (by show (r.val * 128 + o.val) % 128 = o.val; have := o.isLt; omega)

/-! ## The arguments, and the arrays the host part reshapes -/

def arg0 : FVec Ideal S8x64x16384 .f32 := m ((c : Thread nD τ).loc main_arg0)
def arg1 : FVec Ideal S8x16384 .f32 := m ((c : Thread nD τ).loc main_arg1)
def arg2 : FVec Ideal S16x128x64 .f32 := m ((c : Thread nD τ).loc main_arg2)
def arg3 : FVec Ideal S16x128 .f32 := m ((c : Thread nD τ).loc main_arg3)
def arg4 : FVec Ideal S16x128 .f32 := m ((c : Thread nD τ).loc main_arg4)
def arg5 : FVec Ideal S16x128 .f32 := m ((c : Thread nD τ).loc main_arg5)

theorem wts_v1 (r : Fin 16) (o : Fin 128) (k : Fin 64) :
    Stats.wts (V1 m ρ) c (ix2 (row r o) k) = arg2 m c (ix3 r o k) := by
  have e : Stats.wts (V1 m ρ) c
      = shapeCast S2048x64 (arg2 m c) shapeCasts_S16x128x64_S2048x64 := by
    unfold Stats.wts V1 W1 hostOps0
    simp only [StableHlo.TRef.reshape, StableHlo.TRef.toBuf, StableHlo.TRef.ofBuf, cast_eq]
    after_results_simp
    rfl
  rw [e]
  pointwise
  exact congrArg (arg2 m c) (congrArg₂ (fun a b => ix3 a b k) (row_div r o) (row_mod r o))

theorem bias_v1 (r : Fin 16) (o : Fin 128) :
    Stats.bias (V1 m ρ) c (ix2 (row r o) 0) = arg3 m c (ix2 r o) := by
  have e : Stats.bias (V1 m ρ) c
      = shapeCast S2048x1 (arg3 m c) shapeCasts_S16x128_S2048x1 := by
    unfold Stats.bias V1 W1 hostOps0
    simp only [StableHlo.TRef.reshape, StableHlo.TRef.toBuf, StableHlo.TRef.ofBuf, cast_eq]
    after_results_simp
    rfl
  rw [e]
  pointwise
  exact congrArg (arg3 m c) (congrArg₂ (fun a b => ix2 a b) (row_div r o) (row_mod r o))

theorem ring_v1 (b : Bt) (n : Ps) :
    Stats.ring (V1 m ρ) c (ix3 b 0 n) = arg1 m c (ix2 b n) := by
  have e : Stats.ring (V1 m ρ) c
      = shapeCast S8x1x16384 (arg1 m c) shapeCasts_S8x16384_S8x1x16384 := by
    unfold Stats.ring V1 W1 hostOps0
    simp only [StableHlo.TRef.reshape, StableHlo.TRef.toBuf, StableHlo.TRef.ofBuf, cast_eq]
    after_results_simp
    rfl
  rw [e]
  pointwise

theorem feat_v1 : Stats.feat (V1 m ρ) c = arg0 m c :=
  W1_args m ρ c main_arg0 (by decide)

/-- Ring `r`'s points and the value of ring `r`'s channel `o` at a point, from the arguments. -/
abbrev mem (r : Fin 16) : Bt → Ps → Prop := fun b n => hit (arg1 m c (ix2 b n)) r
abbrev lin (r : Fin 16) (o : Fin 128) : Bt → Ps → EReal := fun b n =>
  (∑ k : Fin 64, arg2 m c (ix3 r o k) * arg0 m c (ix3 b k n)) + arg3 m c (ix2 r o)

theorem lin_v1 (r : Fin 16) (o : Fin 128) : Stats.lin (V1 m ρ) c (row r o) = lin m c r o := by
  funext b n
  show (∑ k : Fin 64, Stats.wts (V1 m ρ) c (ix2 (row r o) k) * Stats.feat (V1 m ρ) c (ix3 b k n))
      + Stats.bias (V1 m ρ) c (ix2 (row r o) 0) = _
  simp only [wts_v1, bias_v1, feat_v1]

/-! ## What the table pass reads -/

theorem mx_v2 (b : Bt) (r : Fin 16) (o : Fin 128) : Table.mx (V2 m ρ) c (ix3 b r o)
    = top fun n => if mem m c r b n then lin m c r o b n else ⊥ := by
  have e : Table.mx (V2 m ρ) c = _ := (W2_arr m ρ c 4).trans (Stats.arr_max (V1 m ρ) c)
  rw [e]
  show Stats.maxOf (V1 m ρ) c b r o = _
  unfold Stats.maxOf
  rw [lin_v1]
  simp only [Stats.mem, ring_v1]

theorem sx_v2 (k : Fin 64) (r : Fin 16) : Table.sx (V2 m ρ) c (ix2 k r)
    = tot fun b n => arg0 m c (ix3 b k n) * ind (mem m c r b n) := by
  have e : Table.sx (V2 m ρ) c = _ := (W2_arr m ρ c 5).trans (Stats.arr_sx (V1 m ρ) c)
  rw [e]
  show Stats.sxOf (V1 m ρ) c k r = _
  unfold Stats.sxOf
  simp only [Stats.mem, ring_v1, feat_v1]

theorem ssq_v2 (r r' : Fin 16) (o : Fin 128) : Table.ssq (V2 m ρ) c (ix2 (row r o) r')
    = tot fun b n => lin m c r o b n * lin m c r o b n * ind (mem m c r' b n) := by
  have e : Table.ssq (V2 m ρ) c = _ := (W2_arr m ρ c 6).trans (Stats.arr_ssq (V1 m ρ) c)
  rw [e]
  show Stats.ssqOf (V1 m ρ) c (row r o) r' = _
  unfold Stats.ssqOf
  rw [lin_v1]
  simp only [Stats.mem, ring_v1]

theorem cnt_v2 (r : Fin 16) : Table.cnt (V2 m ρ) c (ix2 0 r) = tot fun b n => ind (mem m c r b n) := by
  have e : Table.cnt (V2 m ρ) c = _ := (W2_arr m ρ c 7).trans (Stats.arr_cnt (V1 m ρ) c)
  rw [e]
  show Stats.cntOf (V1 m ρ) c r = _
  unfold Stats.cntOf
  simp only [Stats.mem, ring_v1]

theorem wts_v2 (r : Fin 16) (o : Fin 128) (k : Fin 64) :
    Table.wts (V2 m ρ) c (ix2 (row r o) k) = arg2 m c (ix3 r o k) :=
  (congrFun (W2_of m ρ c main_call0_v0 (by decide)) (ix2 (row r o) k)).trans (wts_v1 m ρ c r o k)

theorem bias_v2 : Table.bias (V2 m ρ) c = arg3 m c := W2_args m ρ c main_arg3 (by decide)
theorem gain_v2 : Table.gain (V2 m ρ) c = arg4 m c := W2_args m ρ c main_arg4 (by decide)
theorem shift_v2 : Table.shift (V2 m ρ) c = arg5 m c := W2_args m ρ c main_arg5 (by decide)

/-- One entry of the table, from the arguments. -/
def entry (b : Bt) (r : Fin 16) (o : Fin 128) : EReal :=
  kseg eps (tot fun b n => ind (mem m c r b n))
    (∑ k, arg2 m c (ix3 r o k) * tot fun b n => arg0 m c (ix3 b k n) * ind (mem m c r b n))
    (tot fun b n => lin m c r o b n * lin m c r o b n * ind (mem m c r b n))
    (arg3 m c (ix2 r o)) (arg4 m c (ix2 r o)) (arg5 m c (ix2 r o))
    (top fun n => if mem m c r b n then lin m c r o b n else ⊥)

theorem entry_v2 (b : Bt) (r : Fin 16) (o : Fin 128) : Table.entry (V2 m ρ) c b r o = entry m c b r o := by
  unfold Table.entry entry
  rw [mx_v2, cnt_v2, ssq_v2, bias_v2, gain_v2, shift_v2]
  simp only [wts_v2, sx_v2]

/-! ## What the lookup pass reads, and the result -/

theorem ring_v3 (b : Bt) (n : Ps) : Lookup.ring (V3 m ρ) c (ix3 b 0 n) = arg1 m c (ix2 b n) :=
  (congrFun ((W3_of m ρ c main_call0_v2 (by decide)).trans (W2_of m ρ c main_call0_v2 (by decide))) (ix3 b 0 n)).trans
    (ring_v1 m ρ c b n)

theorem table_v3 (b : Bt) (r : Fin 16) (o : Fin 128) : Lookup.table (V3 m ρ) c (ix3 b r o) = entry m c b r o := by
  have e : Lookup.table (V3 m ρ) c = _ := (W3_arr m ρ c 8).trans (Table.arr_table (V2 m ρ) c)
  rw [e]
  exact entry_v2 m ρ c b r o

/-- The result, from the arguments. -/
def result : FVec Ideal S8x128x16384 .f32 := fun j =>
  ∑ r : Fin 16, entry m c (j 0) r (j 1) * ind (mem m c r (j 0) (j 2))

theorem out_v4 : (W4 m ρ c (Proc.devRef .tc main_v0) : FVec Ideal S8x128x16384 .f32) = result m c := by
  have e : (W4 m ρ c (Proc.devRef .tc main_v0) : FVec Ideal S8x128x16384 .f32) = _ :=
    (W4_arr m ρ c 2).trans (Lookup.arr_out (V3 m ρ) c)
  rw [e]
  funext j
  idx_vars j
  show Lookup.entry (V3 m ρ) c j0 j1 j2 = ∑ r : Fin 16, entry m c j0 r j1 * ind (mem m c r j0 j2)
  unfold Lookup.entry
  simp only [table_v3, ring_v3]

end Cert.Rings.Run

end
-- ==== Proof.RefRead.lean ====
/- The reference's result read at an index. -/
module

public import proofs.«01_k».proof.Proof.Gen.ReferenceIdeal.Read
public import proofs.«01_k».proof.Proof.Scalars
public import Idealize.ShloMosaic.Lib.Pointwise

@[expose] public section

set_option maxRecDepth 16384

noncomputable section

namespace Cert.Rings.Ref

open Idealize.ShloMosaic
open Cert.ReferenceIdeal Cert.ReferenceIdeal.Read

variable (x0 : FVec Ideal S8x64x16384 .f32) (x1 : FVec Ideal S8x16384 .f32) (x2 : FVec Ideal S16x128x64 .f32)
  (x3 x4 x5 : FVec Ideal S16x128 .f32)

/-! ## Sums over the batch and the positions -/

/-- A sum over the entries that agree with `(r, o)` off the batch and the position. -/
theorem fiber_r4_a12 (h : S16x8x16384x128.ReducesTo [1, 2] S16x128) (v : S16x8x16384x128.Idx → EReal) (r : Fin 16)
    (o : Fin 128) :
    (∑ i ∈ Finset.univ.filter (fun i => h.drop i = ix2 r o), v i) = tot fun b n => v (ix4 r b n o) := by
  have hd : ∀ (a : Fin 16) (b : Fin 8) (n : Fin 16384) (d : Fin 128), h.drop (ix4 a b n d) = ix2 a d := fun a b n d => by
    funext z; apply Fin.ext
    match z with
    | ⟨0, _⟩ => rfl
    | ⟨1, _⟩ => rfl
  have key := Finset.sum_filter_eq_sum_of_fiber (fun i => h.drop i = ix2 r o) (fun k : Bt × Ps => ix4 r k.1 k.2 o)
    (fun k k' e => Prod.ext (congrFun e 1) (congrFun e 2)) (fun i => by
      idx_vars i
      rw [hd, ix2_inj]
      constructor
      · rintro ⟨rfl, rfl⟩; exact ⟨(i1, i2), rfl⟩
      · rintro ⟨k, hk⟩; rw [ix4_inj] at hk; exact ⟨hk.1.symm, hk.2.2.2.symm⟩) v
  rw [key, Fintype.sum_prod_type]
  rfl

/-- A sum over the entries of the one-column mask that agree with `r` off the batch and the position. -/
theorem fiber_r4_a123 (h : S16x8x16384x1.ReducesTo [1, 2, 3] S16) (v : S16x8x16384x1.Idx → EReal) (r : Fin 16) :
    (∑ i ∈ Finset.univ.filter (fun i => h.drop i = ix1 r), v i) = tot fun b n => v (ix4 r b n 0) := by
  have hd : ∀ (a : Fin 16) (b : Fin 8) (n : Fin 16384) (d : Fin 1), h.drop (ix4 a b n d) = ix1 a := fun a b n d => by
    funext z; apply Fin.ext
    match z with
    | ⟨0, _⟩ => rfl
  have key := Finset.sum_filter_eq_sum_of_fiber (fun i => h.drop i = ix1 r) (fun k : Bt × Ps => ix4 r k.1 k.2 (0 : Fin 1))
    (fun k k' e => Prod.ext (congrFun e 1) (congrFun e 2)) (fun i => by
      idx_vars i
      rw [hd, ix1_inj]
      constructor
      · rintro rfl; exact ⟨(i1, i2), by rw [Subsingleton.elim i3 0]⟩
      · rintro ⟨k, hk⟩; rw [ix4_inj] at hk; exact hk.1.symm) v
  rw [key, Fintype.sum_prod_type]
  rfl

/-! ## The stages -/

/-- The points of ring `r`. -/
abbrev mem (r : Fin 16) : Bt → Ps → Prop := fun b n => hit (x1 (ix2 b n)) r

/-- Ring `r`'s channel `o` before normalisation. -/
abbrev val (r : Fin 16) (o : Fin 128) : Bt → Ps → EReal := fun b n => val_main_v14 (F := Ideal) x0 x2 x3 (ix4 r b n o)

theorem v7_at (r : Fin 16) (b : Fin 8) (n : Fin 16384) :
    val_main_v7 (F := Ideal) x1 (ix3 r b n)
      = IntOp.cmpi .eq (FloatOps.fptosi (F := Ideal) (φ := .f32) 32 (x1 (ix2 b n))) (BitVec.ofNat 32 r.val) := by
  pointwise [val_main_v7, val_main_v6, val_main_v5, val_main_v4, val_main_v3, val_main_v2, val_main_v0]

theorem v14_at (r : Fin 16) (b : Fin 8) (n : Fin 16384) (o : Fin 128) :
    val_main_v14 (F := Ideal) x0 x2 x3 (ix4 r b n o)
      = (∑ k : Fin 64, x0 (ix3 b k n) * x2 (ix3 r o k)) + x3 (ix2 r o) := by
  pointwise [val_main_v14, val_main_v13, val_main_v12, val_main_v11, val_main_v10, val_main_v1]

theorem v9_at (r : Fin 16) (b : Fin 8) (n : Fin 16384) :
    val_main_v9 (F := Ideal) x1 (ix4 r b n 0) = ind (mem x1 r b n) := by
  pointwise [val_main_v9, val_main_v8]
  rw [v7_at]
  exact uitofp_eq _ _

theorem v15_at (r : Fin 16) : val_main_v15 (F := Ideal) x1 (ix1 r) = tot fun b n => ind (mem x1 r b n) := by
  have h : val_main_v15 (F := Ideal) x1 (ix1 r) = Ideal.ofBits .f32 0#32
      + ∑ i ∈ Finset.univ.filter (fun i => Cert.ReferenceIdeal.Gen.reducesTo_S16x8x16384x1_S16_d1_2_3.drop i = ix1 r),
        val_main_v9 (F := Ideal) x1 i := rfl
  rw [h, bits_zero, zero_add, fiber_r4_a123]
  simp only [v9_at]

theorem v17_at (r : Fin 16) : val_main_v17 (F := Ideal) x1 (ix1 r) = rcnt (mem x1 r) := by
  pointwise [val_main_v17, val_main_v16, val_main_cst_0]
  rw [v15_at]
  rfl

theorem v19_at (r : Fin 16) (b : Fin 8) (n : Fin 16384) (o : Fin 128) :
    val_main_v19 (F := Ideal) x0 x1 x2 x3 (ix4 r b n o) = val x0 x2 x3 r o b n * ind (mem x1 r b n) := by
  pointwise [val_main_v19, val_main_v18]
  rw [v9_at]

theorem v23_at (r : Fin 16) (o : Fin 128) :
    val_main_v23 (F := Ideal) x0 x1 x2 x3 (ix2 r o) = rmean (mem x1 r) (val x0 x2 x3 r o) := by
  have h : val_main_v20 (F := Ideal) x0 x1 x2 x3 (ix2 r o) = Ideal.ofBits .f32 0#32
      + ∑ i ∈ Finset.univ.filter (fun i => Cert.ReferenceIdeal.Gen.reducesTo_S16x8x16384x128_S16x128_d1_2.drop i = ix2 r o),
        val_main_v19 (F := Ideal) x0 x1 x2 x3 i := rfl
  pointwise [val_main_v23, val_main_v22, val_main_v21]
  rw [h, bits_zero, zero_add, fiber_r4_a12, v17_at]
  simp only [v19_at]
  rfl

theorem v29_at (r : Fin 16) (b : Fin 8) (n : Fin 16384) (o : Fin 128) :
    val_main_v29 (F := Ideal) x0 x1 x2 x3 (ix4 r b n o)
      = (val x0 x2 x3 r o b n - rmean (mem x1 r) (val x0 x2 x3 r o)) * (val x0 x2 x3 r o b n - rmean (mem x1 r) (val x0 x2 x3 r o))
        * ind (mem x1 r b n) := by
  pointwise [val_main_v29, val_main_v28, val_main_v27, val_main_v26, val_main_v25, val_main_v24]
  rw [v9_at, v23_at]

theorem v33_at (r : Fin 16) (o : Fin 128) :
    val_main_v33 (F := Ideal) x0 x1 x2 x3 (ix2 r o) = rvar (mem x1 r) (val x0 x2 x3 r o) := by
  have h : val_main_v30 (F := Ideal) x0 x1 x2 x3 (ix2 r o) = Ideal.ofBits .f32 0#32
      + ∑ i ∈ Finset.univ.filter (fun i => Cert.ReferenceIdeal.Gen.reducesTo_S16x8x16384x128_S16x128_d1_2.drop i = ix2 r o),
        val_main_v29 (F := Ideal) x0 x1 x2 x3 i := rfl
  pointwise [val_main_v33, val_main_v32, val_main_v31]
  rw [h, bits_zero, zero_add, fiber_r4_a12, v17_at]
  simp only [v29_at]
  rfl

theorem v50_at (r : Fin 16) (b : Fin 8) (o : Fin 128) :
    val_main_v50 (F := Ideal) x0 x1 x2 x3 x4 x5 (ix3 r b o)
      = rseg eps (mem x1 r) (val x0 x2 x3 r o) (x4 (ix2 r o)) (x5 (ix2 r o)) b := by
  pointwise [val_main_v50, val_main_v49, val_main_v48, val_main_v47, val_main_v46, val_main_v45, val_main_v44, val_main_v43,
    val_main_v42, val_main_v41, val_main_v40, val_main_v39, val_main_v38, val_main_v37, val_main_v36, val_main_v35, val_main_v34,
    val_main_call0_v0, val_main_call0_v1, val_main_call0_v2, val_main_call0_v3, val_main_cst_4, val_main_cst_3, val_main_cst_5, val_main_v8]
  simp only [v7_at, v23_at, v33_at, select_eq]
  have hb : (id (constant (F := Ideal) S_ .f32 0xFF800000#32) ix0 : EReal) = ⊥ := bits_bot
  rw [hb, bits_bot]
  rfl

/-- The reference's result: the table entry of the ring the point belongs to. -/
theorem v55_at (b : Fin 8) (o : Fin 128) (n : Fin 16384) :
    val_main_v55 (F := Ideal) x0 x1 x2 x3 x4 x5 (ix3 b o n)
      = ∑ r : Fin 16, if mem x1 r b n
          then rseg eps (mem x1 r) (val x0 x2 x3 r o) (x4 (ix2 r o)) (x5 (ix2 r o)) b else 0 := by
  pointwise [val_main_v55, val_main_v54, val_main_v53, val_main_v52, val_main_v51,
    val_main_call1_v0, val_main_call1_v1, val_main_call1_v2, val_main_call1_v3, val_main_cst_7, val_main_cst_6, val_main_v8]
  simp only [v7_at, v50_at, select_eq]
  have hb : (id (constant (F := Ideal) S_ .f32 0#32) ix0 : EReal) = 0 := bits_zero
  rw [hb]
  rfl

end Cert.Rings.Ref

end
-- ==== Proof.Equation.lean ====
/- The kernel's result is the reference's, at every entry. -/
module

public import proofs.«01_k».proof.Proof.KernelRun
public import proofs.«01_k».proof.Proof.RefRead

@[expose] public section

set_option maxRecDepth 16384

noncomputable section

namespace Cert.Rings

open Idealize.ShloMosaic Idealize.ShloMosaic.TcCoe
open Cert.KernelIdeal

variable (m : (ℓ : Loc nD τ sig) → Buf (Elt Ideal) ℓ) (c : Dev nD)

/-- The two programs compute the same values: only the order of each product's factors differs. -/
theorem lin_eq (r : Fin 16) (o : Fin 128) :
    Run.lin m c r o = Ref.val (Run.arg0 m c) (Run.arg2 m c) (Run.arg3 m c) r o := by
  funext b n
  refine Eq.trans ?_ (Ref.v14_at _ _ _ r b n o).symm
  exact congrArg (· + Run.arg3 m c (ix2 r o)) (Finset.sum_congr rfl fun k _ => mul_comm _ _)

variable (hx : ∀ b k n, ∃ x : ℝ, Run.arg0 m c (ix3 b k n) = (x : EReal))
  (hw : ∀ r o k, ∃ w : ℝ, Run.arg2 m c (ix3 r o k) = (w : EReal))
  (hb : ∀ r o, ∃ d : ℝ, Run.arg3 m c (ix2 r o) = (d : EReal))
  (hg : ∀ r o, (0 : EReal) ≤ Run.arg4 m c (ix2 r o))

include hx hw hb hg in
/-- A ring's table entry is the reference's segment value in every batch where the ring has a point. -/
theorem entry_eq (b : Bt) (r : Fin 16) (o : Fin 128) (hp : ∃ n, Run.mem m c r b n) :
    Run.entry m c b r o = rseg eps (Ref.mem (Run.arg1 m c) r)
      (Ref.val (Run.arg0 m c) (Run.arg2 m c) (Run.arg3 m c) r o) (Run.arg4 m c (ix2 r o)) (Run.arg5 m c (ix2 r o)) b := by
  choose X hX using hx
  choose W hW using hw
  choose D hD using hb
  obtain ⟨e, he, hE⟩ := eps_coe
  unfold Run.entry
  rw [lin_eq, hE]
  simp only [hX, hW, hD]
  refine seg_eq e he (Run.mem m c r) (fun b k n => X b k n) (W r o) (D r o) _ _ (hg r o) b hp _ fun b n => ?_
  rw [← lin_eq]
  show (∑ k : Fin 64, Run.arg2 m c (ix3 r o k) * Run.arg0 m c (ix3 b k n)) + Run.arg3 m c (ix2 r o) = _
  simp only [hX, hW, hD, ← EReal.coe_mul, ← coe_sum, ← EReal.coe_add]

include hx hw hb hg in
theorem result_eq : Run.result m c = Cert.ReferenceIdeal.Read.val_main_v55 (F := Ideal) (Run.arg0 m c) (Run.arg1 m c)
    (Run.arg2 m c) (Run.arg3 m c) (Run.arg4 m c) (Run.arg5 m c) := by
  funext j
  idx_vars j
  refine Eq.trans ?_ (Ref.v55_at _ _ _ _ _ _ j0 j1 j2).symm
  show (∑ r : Fin 16, Run.entry m c j0 r j1 * ind (Run.mem m c r j0 j2)) = _
  refine Finset.sum_congr rfl fun r _ => ?_
  rw [mul_ind]
  by_cases h : Run.mem m c r j0 j2
  · refine (if_pos h).trans (Eq.trans ?_ (if_pos h).symm)
    exact entry_eq m c hx hw hb hg j0 r j1 ⟨j2, h⟩
  · exact (if_neg h).trans (if_neg h).symm

end Cert.Rings

end
-- ==== Proof.Launch.lean ====
/- The run of the kernel: it ends, nothing faults, and its result array holds `result`. -/
module

public import proofs.«01_k».proof.Proof.KernelRun
public import Idealize.ShloMosaic.Adequacy
public import Idealize.ShloMosaic.Init

@[expose] public section

set_option maxRecDepth 16384

noncomputable section

namespace Cert.Rings.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-- What the launch's assertions speak of. -/
abbrev Res := MT nD τ sig Unit (Elt Ideal) ℕ (UR sig nD τ) ℕ

/-! ## The run -/

-- the launch theorem's implicit arguments are found by unfolding plain definitions
set_option backward.isDefEq.respectTransparency.types false in
/-- The kernel ends with its result array at `result`, and its arguments as launched. -/
theorem run : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v0 (by decide))).trans (out_v4 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.Rings.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Pre
public import proofs.«01_k».proof.Proof.Equation
public import proofs.«01_k».proof.Proof.Launch
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel := fun m ρ _ => Cert.Kernel.Gen.frame m ρ

/-- The idealized kernel's frame, and the same under the precondition, which it does not need. -/
theorem frame_ideal : Cert.quiescent_KernelIdeal := fun m ρ _ => Cert.KernelIdeal.Gen.frame m ρ
theorem frame_ideal_pre [Cert.Pre_finite_with_nonnegative_gamma.Facts] :
    Cert.quiescent_KernelIdeal_pre_finite_with_nonnegative_gamma := fun m ρ _ => Cert.KernelIdeal.Gen.frame m ρ

/-- The reference's run without its result: it has no semaphore, so every counter reads zero. -/
theorem reference_quiescent (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
        ∧ r.2.sem = fun _ => 0) :=
  θ_run_mono (Cert.ReferenceIdeal.Value.run (F := Ideal) m ρ)
    fun r h => ⟨fun c => (h c).2, sem_eq_zero_of_no_sems (by decide) r.2⟩

/-- The reference's frame, and the same under the precondition. -/
theorem frame_reference : Cert.quiescent_ReferenceIdeal := fun m ρ _ => reference_quiescent m ρ
theorem frame_reference_pre [Cert.Pre_finite_with_nonnegative_gamma.Facts] :
    Cert.quiescent_ReferenceIdeal_pre_finite_with_nonnegative_gamma := fun m ρ _ => reference_quiescent m ρ

/-- Under the precondition the kernel's result is the reference's of the same arguments. -/
theorem result_of_pre [Cert.Pre_finite_with_nonnegative_gamma.Facts]
    (m : (ℓ : Loc Cert.KernelIdeal.nD Cert.KernelIdeal.τ Cert.KernelIdeal.sig) → Buf (Elt Ideal) ℓ)
    (h : Cert.Pre_KernelIdeal_finite_with_nonnegative_gamma m) (c : Dev Cert.KernelIdeal.nD) :
    Cert.Rings.Run.result m c = Cert.ReferenceIdeal.Read.val_main_v55 (F := Ideal) (Cert.Rings.Run.arg0 m c)
      (Cert.Rings.Run.arg1 m c) (Cert.Rings.Run.arg2 m c) (Cert.Rings.Run.arg3 m c) (Cert.Rings.Run.arg4 m c)
      (Cert.Rings.Run.arg5 m c) :=
  Cert.Rings.result_eq m c (Cert.Rings.Pre.feat_real _ _ _ _ _ _ (h c).1) (Cert.Rings.Pre.weight_real _ _ _ _ _ _ (h c).2.1)
    (Cert.Rings.Pre.bias_real _ _ _ _ _ _ (h c).2.2.1) (Cert.Rings.Pre.gain_nonneg _ _ _ _ _ _ (h c).2.2.2)

/-- The value claim: both programs run, their results are equal and their arguments end unchanged. -/
theorem value [Cert.Pre_finite_with_nonnegative_gamma.Facts] :
    Cert.algebraic_KernelIdeal_ReferenceIdeal_pre_finite_with_nonnegative_gamma := by
  intro m g m' g' hpre hagree
  refine ⟨fun c => Cert.Rings.Run.result m c, Cert.Rings.Run.run m g, ?_⟩
  refine θ_run_mono (Cert.ReferenceIdeal.Value.run (F := Ideal) m' g') fun r h c => ⟨(h c).1.trans ?_, (h c).2⟩
  obtain ⟨h0, h1, h2, h3, h4, h5⟩ := hagree c
  rw [Cert.ReferenceIdeal.Read.val_main_v55_eq m' c, h0, h1, h2, h3, h4, h5]
  exact (result_of_pre m hpre c).symm

theorem claim : Cert.Claim := ⟨Cert.Kernel.Gen.facts, Cert.KernelIdeal.Gen.facts, Cert.ReferenceIdeal.Gen.facts, by
  haveI := Cert.Rings.Pre.facts
  exact ⟨Cert.Rings.Pre.facts, frame_kernel, frame_ideal, frame_ideal_pre, frame_reference, frame_reference_pre, trivial, value⟩⟩

end Cert.Proof

end
